-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v7) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_pre_bounded_KernelIdeal (hKernelIdeal := hKernelIdeal) (hReferenceIdeal := hReferenceIdeal) (hPre_bounded_KernelIdeal := hPre_bounded_KernelIdeal)
-- ==== Pre_bounded_KernelIdeal.lean ====
abbrev S512x2048 : Shape := ⟨2, ![512, 2048]⟩
abbrev S2048x512 : Shape := ⟨2, ![2048, 512]⟩
abbrev S_ : Shape := ⟨0, ![]⟩
abbrev S512 : Shape := ⟨1, ![512]⟩

class Facts : Prop where
  bitsLt_bf16_f32 : FTy.bits .bf16 < FTy.bits .f32
  reducesTo_S512x2048_S512_d1 : S512x2048.ReducesTo [1] S512
  h_S_ : 0 < S_.numel
  bcast_S_S512 : S_.BroadcastsInDim S512 (![] : Fin 0 → Fin S512.rank)
  reducesTo_S2048x512_S512_d0 : S2048x512.ReducesTo [0] S512

variable [Facts]

def fn {F : FTy → Type} [FloatOps F] (main_arg0 : FVec F S512x2048 .bf16) (main_arg1 : FVec F S2048x512 .bf16) : IVec S512 1 :=
  let main_v0 : FVec F S512x2048 .f32 := (extf .f32 · bitsLt_bf16_f32) main_arg0
  let main_v1 : FVec F S2048x512 .f32 := (extf .f32 · bitsLt_bf16_f32) main_arg1
  let main_v2 : FVec F S512x2048 .f32 := mulf main_v0 main_v0
  let main_cst : FVec F S_ .f32 := constant S_ .f32 0x00000000#32
  let main_v3 : FVec F S512 .f32 := (fun x v => Host.reduceAdd x v reducesTo_S512x2048_S512_d1 h_S_) main_v2 main_cst
  let main_cst_0 : FVec F S_ .f32 := constant S_ .f32 0x45160000#32
  let main_v4 : FVec F S512 .f32 := broadcastInDim S512 ![] bcast_S_S512 main_cst_0
  let main_v5 : IVec S512 1 := cmpf .ole main_v3 main_v4
  let main_v6 : FVec F S2048x512 .f32 := mulf main_v1 main_v1
  let main_cst_1 : FVec F S_ .f32 := constant S_ .f32 0x00000000#32
  let main_v7 : FVec F S512 .f32 := (fun x v => Host.reduceAdd x v reducesTo_S2048x512_S512_d0 h_S_) main_v6 main_cst_1
  let main_cst_2 : FVec F S_ .f32 := constant S_ .f32 0x3FC00000#32
  let main_v8 : FVec F S512 .f32 := broadcastInDim S512 ![] bcast_S_S512 main_cst_2
  let main_v9 : IVec S512 1 := cmpf .ole main_v7 main_v8
  let main_v10 : IVec S512 1 := andi main_v5 main_v9
  main_v10
-- ==== Pre_bounded_ReferenceIdeal.lean ====
abbrev S2048x2048 : Shape := ⟨2, ![2048, 2048]⟩
abbrev S_ : Shape := ⟨0, ![]⟩
abbrev S2048 : Shape := ⟨1, ![2048]⟩

class Facts : Prop where
  bitsLt_bf16_f32 : FTy.bits .bf16 < FTy.bits .f32
  reducesTo_S2048x2048_S2048_d1 : S2048x2048.ReducesTo [1] S2048
  h_S_ : 0 < S_.numel
  bcast_S_S2048 : S_.BroadcastsInDim S2048 (![] : Fin 0 → Fin S2048.rank)
  reducesTo_S2048x2048_S2048_d0 : S2048x2048.ReducesTo [0] S2048

variable [Facts]

def fn {F : FTy → Type} [FloatOps F] (main_arg0 : FVec F S2048x2048 .bf16) (main_arg1 : FVec F S2048x2048 .bf16) : IVec S2048 1 :=
  let main_v0 : FVec F S2048x2048 .f32 := (extf .f32 · bitsLt_bf16_f32) main_arg0
  let main_v1 : FVec F S2048x2048 .f32 := (extf .f32 · bitsLt_bf16_f32) main_arg1
  let main_v2 : FVec F S2048x2048 .f32 := mulf main_v0 main_v0
  let main_cst : FVec F S_ .f32 := constant S_ .f32 0x00000000#32
  let main_v3 : FVec F S2048 .f32 := (fun x v => Host.reduceAdd x v reducesTo_S2048x2048_S2048_d1 h_S_) main_v2 main_cst
  let main_cst_0 : FVec F S_ .f32 := constant S_ .f32 0x45160000#32
  let main_v4 : FVec F S2048 .f32 := broadcastInDim S2048 ![] bcast_S_S2048 main_cst_0
  let main_v5 : IVec S2048 1 := cmpf .ole main_v3 main_v4
  let main_v6 : FVec F S2048x2048 .f32 := mulf main_v1 main_v1
  let main_cst_1 : FVec F S_ .f32 := constant S_ .f32 0x00000000#32
  let main_v7 : FVec F S2048 .f32 := (fun x v => Host.reduceAdd x v reducesTo_S2048x2048_S2048_d0 h_S_) main_v6 main_cst_1
  let main_cst_2 : FVec F S_ .f32 := constant S_ .f32 0x3FC00000#32
  let main_v8 : FVec F S2048 .f32 := broadcastInDim S2048 ![] bcast_S_S2048 main_cst_2
  let main_v9 : IVec S2048 1 := cmpf .ole main_v7 main_v8
  let main_v10 : IVec S2048 1 := andi main_v5 main_v9
  main_v10
-- ==== Kernel.lean ====
abbrev S512x2048 : Shape := ⟨2, ![512, 2048]⟩
abbrev S2048x512 : Shape := ⟨2, ![2048, 512]⟩
abbrev S2048x2048 : Shape := ⟨2, ![2048, 2048]⟩
abbrev S6 : Shape := ⟨1, ![6]⟩
abbrev S_ : Shape := ⟨0, ![]⟩
abbrev S256x2048 : Shape := ⟨2, ![256, 2048]⟩
abbrev S1 : Shape := ⟨1, ![1]⟩
abbrev S512x512 : Shape := ⟨2, ![512, 512]⟩
abbrev S256x512 : Shape := ⟨2, ![256, 512]⟩

abbrev nBuf : Space → Nat
  | .hbm => 3
  | .vmem => 4
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S2048x512, .f32⟩
  | .local _ .vmem, ⟨0, _⟩ => ⟨S512x2048, .bf16⟩
  | .local _ .vmem, ⟨1, _⟩ => ⟨S2048x512, .bf16⟩
  | .local _ .vmem, ⟨2, _⟩ => ⟨S2048x512, .f32⟩
  | .local _ .vmem, ⟨3, _⟩ => ⟨S2048x2048, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v43 : BitVec 32 := Scalar.muli v2 c512_i32
  let v44 : Index := Scalar.indexCast v43
  let c0_26 : Index := 0#32
  ![v44.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_28 : BitVec 32 := 512#32
  let v50 : BitVec 32 := Scalar.muli v2 c512_i32_28
  let c256_i32 : BitVec 32 := 256#32
  let v51 : BitVec 32 := Scalar.addi v50 c256_i32
  let v52 : Index := Scalar.indexCast v51
  let c0_29 : Index := 0#32
  ![v52.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_31 : BitVec 32 := 512#32
  let v56 : BitVec 32 := Scalar.muli v2 c512_i32_31
  let c0_i32_41 : BitVec 32 := 0#32
  ![v56.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v62 : BitVec 32 := Scalar.muli v24 c1_i32_39
  let v63 : BitVec 32 := Scalar.addi c0_i32_40 v62
  v63.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_34 : BitVec 32 := 512#32
  let v59 : BitVec 32 := Scalar.muli v2 c512_i32_34
  let c256_i32_35 : BitVec 32 := 256#32
  let v60 : BitVec 32 := Scalar.addi v59 c256_i32_35
  let c0_i32_46 : BitVec 32 := 0#32
  ![v60.toNat, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v70 : BitVec 32 := Scalar.muli v13 c1_i32_44
  let v71 : BitVec 32 := Scalar.addi c0_i32_45 v70
  v71.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_50 : BitVec 32 := 1#32
  let v78 : BitVec 32 := Scalar.muli v24 c1_i32_50
  let v79 : BitVec 32 := Scalar.addi c0_i32_51 v78
  v79.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_56 : BitVec 32 := 1#32
  let v86 : BitVec 32 := Scalar.muli v13 c1_i32_56
  let v87 : BitVec 32 := Scalar.addi c0_i32_57 v86
  v87.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_62 : BitVec 32 := 512#32
  let v96 : BitVec 32 := Scalar.muli v2 c512_i32_62
  let v97 : Index := Scalar.indexCast v96
  let c0_63 : Index := 0#32
  ![v97.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_62 : BitVec 32 := 512#32
  let v96 : BitVec 32 := Scalar.muli v2 c512_i32_62
  let v102 : Index := Scalar.indexCast v96
  let c0_64 : Index := 0#32
  ![v102.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_71 : BitVec 32 := 512#32
  let v110 : BitVec 32 := Scalar.muli v13 c512_i32_71
  let c0_i32_76 : BitVec 32 := 0#32
  ![v110.toNat, 0]
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_74 : BitVec 32 := 1#32
  let v111 : BitVec 32 := Scalar.muli v24 c1_i32_74
  let v112 : BitVec 32 := Scalar.addi c0_i32_75 v111
  v112.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_84 : BitVec 32 := 512#32
  let v125 : BitVec 32 := Scalar.muli v24 c512_i32_84
  let c256_i32_85 : BitVec 32 := 256#32
  let v126 : BitVec 32 := Scalar.addi v125 c256_i32_85
  let c0_i32_89 : BitVec 32 := 0#32
  ![v126.toNat, 0]
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_87 : BitVec 32 := 1#32
  let v127 : BitVec 32 := Scalar.muli v13 c1_i32_87
  let v128 : BitVec 32 := Scalar.addi c0_i32_88 v127
  v128.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_97 : BitVec 32 := 512#32
  let v141 : BitVec 32 := Scalar.muli v13 c512_i32_97
  let v142 : Index := Scalar.indexCast v141
  let c0_98 : Index := 0#32
  ![v142.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_97 : BitVec 32 := 512#32
  let v141 : BitVec 32 := Scalar.muli v13 c512_i32_97
  let v147 : Index := Scalar.indexCast v141
  let c0_100 : Index := 0#32
  ![v147.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_107 : BitVec 32 := 512#32
  let v155 : BitVec 32 := Scalar.muli v24 c512_i32_107
  let v156 : Index := Scalar.indexCast v155
  let c0_108 : Index := 0#32
  ![v156.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_107 : BitVec 32 := 512#32
  let v155 : BitVec 32 := Scalar.muli v24 c512_i32_107
  let v161 : Index := Scalar.indexCast v155
  let c0_110 : Index := 0#32
  ![v161.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c512_i32_117 : BitVec 32 := 512#32
  let v169 : BitVec 32 := Scalar.muli v35 c512_i32_117
  let v170 : Index := Scalar.indexCast v169
  let c0_118 : Index := 0#32
  ![v170.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c512_i32_117 : BitVec 32 := 512#32
  let v169 : BitVec 32 := Scalar.muli v35 c512_i32_117
  let v175 : Index := Scalar.indexCast v169
  let c0_120 : Index := 0#32
  ![v175.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c512_i32_127 : BitVec 32 := 512#32
  let v183 : BitVec 32 := Scalar.muli v35 c512_i32_127
  let c256_i32_128 : BitVec 32 := 256#32
  let v184 : BitVec 32 := Scalar.addi v183 c256_i32_128
  let v185 : Index := Scalar.indexCast v184
  let c0_129 : Index := 0#32
  ![v185.toNat, 0]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c512_i32_127 : BitVec 32 := 512#32
  let v183 : BitVec 32 := Scalar.muli v35 c512_i32_127
  let c256_i32_128 : BitVec 32 := 256#32
  let v184 : BitVec 32 := Scalar.addi v183 c256_i32_128
  let v190 : Index := Scalar.indexCast v184
  let c0_131 : Index := 0#32
  ![v190.toNat, 0]
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== UnclippedIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelIdealRing.lean ====
/-
The exchange the four devices run, as a schedule of rounds.

Every device holds 512 rows of `x` and gathers all 2048 in its scratch buffer. It copies its rows there, in two halves
of 256; sends each half to both neighbours; and forwards the upper half of its left neighbour's rows to the right and
the lower half of its right neighbour's rows to the left. Six copies leave and six arrive, each with its own pair of
semaphores. Before the first copy, each device signals both neighbours' barrier semaphore and waits for two signals:
a signal hands the neighbour the rows of the signaller's scratch buffer which that neighbour is to fill.

This file names the rows, states what the gathered array holds, and defines the schedule of payments between the
devices, with the order of the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the exchange: rounds over every semaphore cell, the payments of a round named by a `Bool`. -/
abbrev UB : Type := URounds (GSem nD τ sig) Bool
/-- The ghost state of the whole proof: the staging pipeline's and the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of four devices -/

set_option backward.proofsInPublic true in
/-- The left neighbour of a device, its right neighbour, and the device opposite. -/
def lft (c : Dev nD) : Dev nD := ⟨(c.val + 3) % 4, Nat.mod_lt _ (by decide)⟩
set_option backward.proofsInPublic true in
@[inherit_doc lft] def rgt (c : Dev nD) : Dev nD := ⟨(c.val + 1) % 4, Nat.mod_lt _ (by decide)⟩
set_option backward.proofsInPublic true in
@[inherit_doc lft] def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem opp_rgt (c : Dev nD) : opp (rgt c) = lft c := by revert c; decide
theorem opp_lft (c : Dev nD) : opp (lft c) = rgt c := by revert c; decide
theorem lft_lft (c : Dev nD) : lft (lft c) = opp c := by revert c; decide
theorem rgt_rgt (c : Dev nD) : rgt (rgt c) = opp c := by revert c; decide
theorem rgt_ne_lft (c : Dev nD) : rgt c ≠ lft c := by revert c; decide

/-- Going round the ring, one device to the right at a time. -/
def around : Dev nD ≃ Dev nD := ⟨rgt, lft, lft_rgt, rgt_lft⟩

/-- The devices the kernel names as the targets of its two signals and its six copies. -/
theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = rgt c := by revert c; decide +kernel
theorem dev4_eq (c : Dev nD) : (⟨k0_dev4 c, k0_dev4_lt c⟩ : Dev nD) = lft c := by revert c; decide +kernel
theorem dev5_eq (c : Dev nD) : (⟨k0_dev5 c, k0_dev5_lt c⟩ : Dev nD) = rgt c := by revert c; decide +kernel
theorem dev6_eq (c : Dev nD) : (⟨k0_dev6 c, k0_dev6_lt c⟩ : Dev nD) = lft c := by revert c; decide +kernel
theorem dev7_eq (c : Dev nD) : (⟨k0_dev7 c, k0_dev7_lt c⟩ : Dev nD) = rgt c := by revert c; decide +kernel
theorem dev8_eq (c : Dev nD) : (⟨k0_dev8 c, k0_dev8_lt c⟩ : Dev nD) = lft c := by revert c; decide +kernel

/-- The first rows the kernel's slices start at: its own block (1, 3, 5, 6), the lower half of it (2, 4), … -/
theorem off1_eq (c : Dev nD) : k0_off1 c = ![512 * c.val, 0] := by revert c; decide +kernel
theorem off2_eq (c : Dev nD) : k0_off2 c = ![512 * c.val + 256, 0] := by revert c; decide +kernel
theorem off3_eq (c : Dev nD) : k0_off3 c = ![512 * c.val, 0] := by revert c; decide +kernel
theorem off4_eq (c : Dev nD) : k0_off4 c = ![512 * c.val + 256, 0] := by revert c; decide +kernel
theorem off5_eq (c : Dev nD) : k0_off5 c = ![512 * c.val, 0] := by revert c; decide +kernel
theorem off6_eq (c : Dev nD) : k0_off6 c = ![512 * c.val, 0] := by revert c; decide +kernel
theorem off7_eq (c : Dev nD) : k0_off7 c = ![512 * (lft c).val, 0] := by revert c; decide +kernel
theorem off8_eq (c : Dev nD) : k0_off8 c = ![512 * (rgt c).val + 256, 0] := by revert c; decide +kernel
theorem off9_eq (c : Dev nD) : k0_off9 c = ![512 * (lft c).val, 0] := by revert c; decide +kernel
theorem off10_eq (c : Dev nD) : k0_off10 c = ![512 * (lft c).val, 0] := by revert c; decide +kernel
theorem off11_eq (c : Dev nD) : k0_off11 c = ![512 * (rgt c).val, 0] := by revert c; decide +kernel
theorem off12_eq (c : Dev nD) : k0_off12 c = ![512 * (rgt c).val, 0] := by revert c; decide +kernel
theorem off13_eq (c : Dev nD) : k0_off13 c = ![512 * (opp c).val, 0] := by revert c; decide +kernel
theorem off14_eq (c : Dev nD) : k0_off14 c = ![512 * (opp c).val, 0] := by revert c; decide +kernel
theorem off15_eq (c : Dev nD) : k0_off15 c = ![512 * (opp c).val + 256, 0] := by revert c; decide +kernel
theorem off16_eq (c : Dev nD) : k0_off16 c = ![512 * (opp c).val + 256, 0] := by revert c; decide +kernel

/-! ## Rows of the gathered array -/

abbrev xM : Memref sig .tc .vmem S512x2048 .bf16 := Memref.whole cc0_stg0_0
abbrev wM : Memref sig .tc .vmem S2048x512 .bf16 := Memref.whole cc0_stg1_0
abbrev oM : Memref sig .tc .vmem S2048x512 .f32 := Memref.whole cc0_stg2_0
abbrev gM : Memref sig .tc .vmem S2048x2048 .bf16 := Memref.whole cc0_scratch0

/-- The `n` rows of the gathered array from row `a` on. -/
def rows (a n : ℕ) : Finset S2048x2048.Idx := Finset.univ.filter fun i => a ≤ (i 0).val ∧ (i 0).val < a + n

theorem mem_rows {a n : ℕ} {i : S2048x2048.Idx} : i ∈ rows a n ↔ a ≤ (i 0).val ∧ (i 0).val < a + n := by
  unfold rows; rw [Finset.mem_filter]; exact and_iff_right (Finset.mem_univ _)

/-- The elements of a block of `n` whole rows from row `a` on are those rows'. -/
theorem rect_rows {a n : ℕ} {off : Fin 2 → ℕ} (h : ∀ d, off d + (![n, 2048] : Fin 2 → ℕ) d ≤ S2048x2048.size d) (ho : off = ![a, 0]) :
    (Rect.unit (s := S2048x2048) off ![n, 2048] h).set = rows a n := by
  subst ho
  ext i
  rw [show i ∈ (Rect.unit (s := S2048x2048) ![a, 0] ![n, 2048] h).set ↔ _ from LoadRect.mem_set _, mem_rows]
  constructor
  · intro H
    obtain ⟨j, hj, he⟩ := H 0
    have hj' : j < n := hj
    have he' : (i 0 : ℕ) = a + 1 * j := he
    omega
  · rintro ⟨h1, h2⟩ d
    fin_cases d
    · exact ⟨(i 0).val - a, (by show (i 0).val - a < n; omega), (by show (i 0 : ℕ) = a + 1 * ((i 0).val - a); omega)⟩
    · exact ⟨(i 1).val, (i 1).isLt, (by show (i 1 : ℕ) = 0 + 1 * (i 1).val; omega)⟩

theorem rows_disjoint {a n b k : ℕ} (h : a + n ≤ b ∨ b + k ≤ a) : Disjoint (rows a n) (rows b k) :=
  Finset.disjoint_left.mpr fun i hi hj => by rw [mem_rows] at hi hj; omega

theorem rows_append (a n k : ℕ) : rows a (n + k) = rows a n ∪ rows (a + n) k := by
  ext i; rw [Finset.mem_union, mem_rows, mem_rows, mem_rows]; omega

theorem rows_all : rows 0 2048 = Finset.univ :=
  Finset.eq_univ_iff_forall.mpr fun i => by
    rw [mem_rows]; have h : (i 0).val < 2048 := (i 0).isLt; omega

/-! ## Contents -/

/-- Device `c`'s rows of `x`, and its columns of the weights, as the kernel's input stages hold them. -/
def xin (c : Dev nD) : FVec F S512x2048 .bf16 := m ((c : Thread nD τ).loc main_arg0)
@[inherit_doc xin] def win (c : Dev nD) : FVec F S2048x512 .bf16 := m ((c : Thread nD τ).loc main_arg1)

set_option backward.proofsInPublic true in
/-- The device whose rows of `x` hold row `r` of the whole array. -/
def rowDev (r : Fin 2048) : Dev nD := ⟨r.val / 512, by have := r.isLt; show _ < 4; omega⟩

set_option backward.proofsInPublic true in
/-- The index at row `r`, column `k` of a matrix. -/
def ix {a b : ℕ} (r : Fin a) (k : Fin b) : (⟨2, ![a, b]⟩ : Shape).Idx := fun
  | 0 => ⟨r.val, r.isLt⟩
  | 1 => ⟨k.val, k.isLt⟩

theorem ix_ext {a b : ℕ} {i j : (⟨2, ![a, b]⟩ : Shape).Idx} (h0 : (i 0).val = (j 0).val) (h1 : (i 1).val = (j 1).val) : i = j := by
  funext d
  fin_cases d
  · exact Fin.ext h0
  · exact Fin.ext h1

set_option backward.proofsInPublic true in
/-- All 2048 rows of `x`, gathered. -/
def gath : FVec F S2048x2048 .bf16 := fun i =>
  xin m (rowDev (i 0)) (ix (a := 512) (b := 2048) ⟨(i 0).val % 512, Nat.mod_lt _ (by decide)⟩ (i 1))

/-- The rows `a … a + n - 1` of device `c`'s scratch buffer, held at share `q` with contents `f`. -/
def hp (c : Dev nD) (a n : ℕ) (q : PosShare TreeShare) (f : FVec F S2048x2048 .bf16) : sProp 𝕄 :=
  ((c : Thread nD τ).loc cc0_scratch0) ↦[rows a n]{q} (f : Buf (Elt F) ((c : Thread nD τ).loc cc0_scratch0))

omit [FloatOps F] in
instance hp_storable (c : Dev nD) (a n : ℕ) (q) (f : FVec F S2048x2048 .bf16) : BI.Storable (upEmb : UEmb _ 𝕄) (hp (F := F) c a n q f) := by
  unfold hp; infer_instance

omit [FloatOps F] in
theorem hp_congr (c : Dev nD) (a n : ℕ) (q) {f g : FVec F S2048x2048 .bf16} (h : ∀ i ∈ rows a n, f i = g i) :
    (hp c a n q f : sProp 𝕄) = hp c a n q g := pointsTo_congr h

omit [FloatOps F] in
theorem hp_append (c : Dev nD) (a n k : ℕ) (q) (f : FVec F S2048x2048 .bf16) :
    (hp c a (n + k) q f : sProp 𝕄) ⊣⊢ iprop(hp c a n q f ∗ hp c (a + n) k q f) := by
  unfold hp; rw [rows_append]; exact pointsTo_union (rows_disjoint (.inl le_rfl))

omit [FloatOps F] in
theorem hp_share (c : Dev nD) (a n : ℕ) (q : PosShare TreeShare) (f : FVec F S2048x2048 .bf16) :
    (hp c a n q f : sProp 𝕄) ⊣⊢ iprop(hp c a n q.left f ∗ hp c a n q.right f) := by
  unfold hp; exact pointsTo_share (PosShare.mem_left_op_right q)

omit [FloatOps F] in
theorem hp_all (c : Dev nD) (f : FVec F S2048x2048 .bf16) :
    (hp c 0 2048 fullShare f : sProp 𝕄) = (((c : Thread nD τ).loc cc0_scratch0) ↦{fullShare} (f : Buf (Elt F) ((c : Thread nD τ).loc cc0_scratch0))) := by
  unfold hp; rw [rows_all]

/-! ## The semaphores -/

/-- The runtime's barrier semaphore. -/
abbrev barS : Sem sig := (SemArray.scalar (sig.barrier 0 rfl) : Sems sig S_).sem

abbrev bcell (c : Dev nD) : GSem nD τ sig := ((c : Thread nD τ), .reg barS)
abbrev dcell (c : Dev nD) (s : Fin 15) : GSem nD τ sig := ((c : Thread nD τ), .dma (s : DmaSem sig))

set_option backward.proofsInPublic true in
/-- The kernel's own semaphores: the six its copies leave with, the six they arrive with; -/
def osem (k : Fin 12) : SemLoc sig := .dma (⟨k.val + 3, by have := k.isLt; show _ < 15; omega⟩ : Fin 15)
set_option backward.proofsInPublic true in
/-- and those with the barrier's in front. -/
def csem (k : Fin 13) : SemLoc sig := if k.val = 0 then .reg barS else .dma (⟨k.val + 2, by have := k.isLt; show _ < 15; omega⟩ : Fin 15)
def kcell (ck : Dev nD × Fin 13) : GSem nD τ sig := ((ck.1 : Thread nD τ), csem ck.2)

set_option backward.proofsInPublic true in
/-- Where a copy's semaphore stands among the kernel's. -/
def cix (s : Fin 15) : Fin 13 := ⟨s.val - 2, by have := s.isLt; omega⟩

theorem csem_cix (s : Fin 15) (h : 3 ≤ s.val) : csem (cix s) = .dma (s : DmaSem sig) := by
  unfold csem cix
  rw [if_neg (show ¬ s.val - 2 = 0 by omega)]
  exact congrArg SemLoc.dma (Fin.ext (show s.val - 2 + 2 = s.val by omega))

/-! ## The schedule -/

/-- What one copy of 256 rows credits its semaphores. -/
def N : ℕ := (gM.slice (Rect.unit (s := S2048x2048) ![0, 0] S256x2048.size (by decide)) (fun _ => rfl) : Memref sig .tc .vmem S256x2048 .bf16).view.dmaCredit
theorem N_pos : 0 < N := View.dmaCredit_pos _ (by decide)

/-- The first of the rows a copy's completion gives device `c`: of those it sent, for the semaphores 3 to 8; of those it
    received, for 9 to 14. -/
def rowOf (c : Dev nD) (s : Fin 15) : ℕ :=
  match s.val with
  | 3 => 512 * c.val | 4 => 512 * c.val + 256 | 5 => 512 * (lft c).val
  | 6 => 512 * c.val + 256 | 7 => 512 * c.val | 8 => 512 * (rgt c).val + 256
  | 9 => 512 * (lft c).val | 10 => 512 * (lft c).val + 256 | 11 => 512 * (opp c).val
  | 12 => 512 * (rgt c).val + 256 | 13 => 512 * (rgt c).val | 14 => 512 * (opp c).val + 256
  | _ => 0

/-- The share of those rows: what was lent to the copy, or all of what arrived. -/
def shOf (s : Fin 15) : PosShare TreeShare :=
  match s.val with
  | 3 => fullShare.left.left | 4 => fullShare.left.left | 5 => fullShare.left
  | 6 => fullShare.left.right | 7 => fullShare.left.right | 8 => fullShare.left
  | _ => fullShare

/-- What a device is handed by its right neighbour's signal: the rows of that neighbour's scratch buffer it is to fill,
    its own block and the upper half of its left neighbour's; -/
def barR (c : Dev nD) : sProp 𝕄 :=
  iprop((∃ f, hp (rgt c) (512 * c.val) 256 fullShare f) ∗ (∃ f, hp (rgt c) (512 * c.val + 256) 256 fullShare f)
    ∗ (∃ f, hp (rgt c) (512 * (lft c).val) 256 fullShare f))
/-- and by its left neighbour's: its own block and the lower half of its right neighbour's. -/
def barL (c : Dev nD) : sProp 𝕄 :=
  iprop((∃ f, hp (lft c) (512 * c.val) 256 fullShare f) ∗ (∃ f, hp (lft c) (512 * c.val + 256) 256 fullShare f)
    ∗ (∃ f, hp (lft c) (512 * (rgt c).val + 256) 256 fullShare f))

/-- What a finished copy gives device `c`: the rows it sent or received, holding the gathered array's. -/
def cpay (c : Dev nD) (s : Fin 15) : sProp 𝕄 := hp c (rowOf c s) 256 (shOf s) (gath m)

omit [FloatOps F] in
instance barR_storable (c : Dev nD) : BI.Storable (upEmb : UEmb _ 𝕄) (barR (F := F) c) := by unfold barR; infer_instance
omit [FloatOps F] in
instance barL_storable (c : Dev nD) : BI.Storable (upEmb : UEmb _ 𝕄) (barL (F := F) c) := by unfold barL; infer_instance
omit [FloatOps F] in
instance cpay_storable (c : Dev nD) (s) : BI.Storable (upEmb : UEmb _ 𝕄) (cpay (F := F) m c s) := by unfold cpay; infer_instance

/-- One round. A barrier cell receives one unit from either neighbour (`true`: the right one, `false`: the left one); a
    copy's cell one copy's credit. -/
def sched : Rounds.Schedule (GSem nD τ sig) Bool 𝕄 where
  duties g r := if r = 0 ∧ g.1.2 = .tc then
      (match g.2 with
        | .reg s => if s = barS then Finset.univ else ∅
        | .dma s => if 3 ≤ (show Fin 15 from s).val then {false} else ∅)
    else ∅
  unitless _ := False
  amount g _ _ := match g.2 with | .reg _ => 1 | .dma _ => N
  payload g _ d := match g.2 with
    | .reg _ => if d then barR g.1.1 else barL g.1.1
    | .dma s => cpay m g.1.1 s
  amount_pos g _ _ _ := by
    rcases g with ⟨t, s | s⟩
    · exact Nat.one_pos
    · exact N_pos

instance sched_payload_storable (g : GSem nD τ sig) (r : ℕ) (d : Bool) :
    BI.Storable (upEmb : UEmb _ 𝕄) ((sched (F := F) m).payload g r d) := by
  rcases g with ⟨t, s | s⟩
  · show BI.Storable upEmb (if d then barR t.1 else barL t.1 : sProp 𝕄)
    split <;> infer_instance
  · show BI.Storable upEmb (cpay m t.1 s : sProp 𝕄)
    infer_instance

section Sched
variable (c : Dev nD) (s : Fin 15)

omit [FloatOps F] in
theorem duties_bar : (sched (F := F) m).duties (bcell c) 0 = Finset.univ := by
  dsimp only [sched]; rw [if_pos ⟨rfl, rfl⟩, if_pos rfl]
omit [FloatOps F] in
theorem duties_dma (h : 3 ≤ s.val) : (sched (F := F) m).duties (dcell c s) 0 = {false} := by
  dsimp only [sched]; rw [if_pos ⟨rfl, rfl⟩, if_pos h]
omit [FloatOps F] in
theorem duties_later (g : GSem nD τ sig) : ∀ r, 1 ≤ r → (sched (F := F) m).duties g r = ∅ :=
  fun r hr => by dsimp only [sched]; rw [if_neg fun h => by omega]
omit [FloatOps F] in
theorem amount_bar (d : Bool) : (sched (F := F) m).amount (bcell c) 0 d = 1 := rfl
omit [FloatOps F] in
theorem amount_dma (d : Bool) : (sched (F := F) m).amount (dcell c s) 0 d = N := rfl
omit [FloatOps F] in
theorem expect_bar : (sched (F := F) m).expect (bcell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_dma (h : 3 ≤ s.val) : (sched (F := F) m).expect (dcell c s) 0 = N := by
  unfold Schedule.expect Schedule.amountOf; rw [duties_dma m c s h, Finset.sum_singleton, amount_dma]
omit [FloatOps F] in
theorem payload_bar_true : (sched (F := F) m).payload (bcell c) 0 true = barR c := rfl
omit [FloatOps F] in
theorem payload_bar_false : (sched (F := F) m).payload (bcell c) 0 false = barL c := rfl
omit [FloatOps F] in
theorem payload_dma (d : Bool) : (sched (F := F) m).payload (dcell c s) 0 d = cpay m c s := rfl
omit [FloatOps F] in
/-- All a barrier cell's round pays: both neighbours' rows. -/
theorem rest_bar : bigSep ((sched (F := F) m).duties (bcell c) 0 \ ∅) (fun d => (sched (F := F) m).payload (bcell c) 0 d) = iprop(barL c ∗ barR c) := by
  rw [Finset.sdiff_empty, duties_bar, bigSep_univ_eq_bigSepL [false, true] (by decide) (by decide), bigSepL_cons_cons, bigSepL_singleton,
    payload_bar_false, payload_bar_true]
  rfl
omit [FloatOps F] in
theorem rest_dma (h : 3 ≤ s.val) : bigSep ((sched (F := F) m).duties (dcell c s) 0 \ ∅) (fun d => (sched (F := F) m).payload (dcell c s) 0 d) = cpay m c s := by
  rw [Finset.sdiff_empty, duties_dma m c s h, bigSep_singleton, payload_dma]

end Sched

/-! ## What a device owes, and the order of the waits -/

/-- One copy's credit, owed to semaphore `s` of device `d`. -/
abbrev cr (d : Dev nD) (s : Fin 15) : CellTallies nD τ sig Unit := tallyAt (dcell d s) () N
abbrev br (d : Dev nD) : CellTallies nD τ sig Unit := tallyAt (bcell d) () 1

/-- What device `c` still owes before each of its payments, the last payment first: the six copies, the two signals. -/
def T1 (c : Dev nD) : CellTallies nD τ sig Unit := 0 + cr (lft c) 14
@[inherit_doc T1] def T2 (c : Dev nD) : CellTallies nD τ sig Unit := T1 c + cr (rgt c) 11
@[inherit_doc T1] def T3 (c : Dev nD) : CellTallies nD τ sig Unit := T2 c + cr (lft c) 13
@[inherit_doc T1] def T4 (c : Dev nD) : CellTallies nD τ sig Unit := T3 c + cr (rgt c) 10
@[inherit_doc T1] def T5 (c : Dev nD) : CellTallies nD τ sig Unit := T4 c + cr (lft c) 12
@[inherit_doc T1] def T6 (c : Dev nD) : CellTallies nD τ sig Unit := T5 c + cr (rgt c) 9
@[inherit_doc T1] def T7 (c : Dev nD) : CellTallies nD τ sig Unit := T6 c + br (rgt c)
@[inherit_doc T1] def O₀ (c : Dev nD) : CellTallies nD τ sig Unit := T7 c + br (lft c)

def L (g : GSem nD τ sig) : Finset Unit := if g.1.2 = .tc then {()} else ∅
/-- The order of the waits: staging and departures at 0, the barrier at 1, the four direct arrivals at 2, the two
    forwarded ones at 3. -/
def lv (g : GSem nD τ sig) (_ : Unit) : ℕ := match g.2 with
  | .reg _ => 1
  | .dma s => if 9 ≤ (show Fin 15 from s).val then (if (show Fin 15 from s).val = 11 ∨ (show Fin 15 from s).val = 14 then 3 else 2) else 0

theorem L_of_ne (g : GSem nD τ sig) (h : g.1.2 ≠ .tc) : L g = ∅ := if_neg h
theorem L_tc (c : Dev nD) (sm : SemLoc sig) : L ((c : Thread nD τ), sm) = {()} := if_pos rfl

/-- Every cell owed to under `A` is a core's and stands above level `n`. -/
def Above (n : ℕ) (A : CellTallies nD τ sig Unit) : Prop := ∀ g u, 0 < A g u → g.1.2 = .tc ∧ n < lv g ()

theorem above_zero (n : ℕ) : Above n 0 := fun g u h => absurd h (Nat.lt_irrefl 0)
theorem above_add {n : ℕ} {A : CellTallies nD τ sig Unit} (hA : Above n A) (d : Dev nD) (sm : SemLoc sig) (k : ℕ) (h : n < lv ((d : Thread nD τ), sm) ()) :
    Above n (A + tallyAt ((d : Thread nD τ), sm) () k) := fun g u hg => by
  rw [Pi.add_apply, Finsupp.add_apply, tallyAt_apply] at hg
  by_cases hc : g = ((d : Thread nD τ), sm) ∧ u = ()
  · rw [hc.1]; exact ⟨rfl, h⟩
  · rw [if_neg hc] at hg; exact hA g u (by omega)

omit [FloatOps F] in
/-- A wait at level `n` may be made while everything owed stands above `n`. -/
theorem mayWait_above {n : ℕ} {A : CellTallies nD τ sig Unit} (hA : Above n A) (c : Dev nD) (sm : SemLoc sig) (hs : lv ((c : Thread nD τ), sm) () ≤ n) :
    (levAts L lv : sProp 𝕄) ⊢ MayWait (c : Thread nD τ) sm () A :=
  MayOwe.of_cut (L := L) (lev := lv) n (fun p hp => by rw [Finset.mem_singleton.mp hp, L_tc]; exact Finset.mem_singleton_self _)
    (fun g u hg => by unfold L; rw [if_pos (hA g u hg).1]; exact Finset.mem_singleton_self _)
    (fun p hp => by rw [Finset.mem_singleton.mp hp]; exact hs)
    (fun g u hg => by cases u; exact (hA g () hg).2)

theorem lv_bar (d : Dev nD) : lv (bcell d) () = 1 := rfl

theorem above_T1 (c : Dev nD) : Above 2 (T1 c) := above_add (above_zero 2) _ _ _ (by decide : 2 < 3)
theorem above_T2 (c : Dev nD) : Above 2 (T2 c) := above_add (above_T1 c) _ _ _ (by decide : 2 < 3)
theorem above_mono {n k : ℕ} (h : k ≤ n) {A : CellTallies nD τ sig Unit} (hA : Above n A) : Above k A :=
  fun g u hg => ⟨(hA g u hg).1, lt_of_le_of_lt h (hA g u hg).2⟩
theorem above_T6 (c : Dev nD) : Above 1 (T6 c) :=
  above_add (above_add (above_add (above_add (above_mono (by decide) (above_T2 c)) _ _ _ (by decide : 1 < 2)) _ _ _ (by decide : 1 < 2))
    _ _ _ (by decide : 1 < 2)) _ _ _ (by decide : 1 < 2)
theorem above_O₀ (c : Dev nD) : Above 0 (O₀ c) :=
  above_add (above_add (above_mono (by decide) (above_T6 c)) _ _ _ (by decide : 0 < 1)) _ _ _ (by decide : 0 < 1)

end Cert.KernelIdeal.Ring

end
-- ==== Proof.KernelIdealSteps.lean ====
/-
The steps of the kernel's body, one lemma each: what a load of gathered rows reads, what a store leaves in the gathered
array and in the result, what a signal and a copy to a neighbour hand over, and what a wait brings back.
-/
module

public import proofs.«01_k».proof.Proof.KernelIdealRing
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reads and writes of rows -/

set_option backward.proofsInPublic true in
/-- `n` rows of the gathered array from row `a` on. -/
def grows (a n : ℕ) : FVec F ⟨2, ![n, 2048]⟩ .bf16 := fun j =>
  gath m (ix (a := 2048) (b := 2048) ⟨(a + (j 0).val) % 2048, Nat.mod_lt _ (by decide)⟩ (j 1))

omit [FloatOps F] in
/-- A load of `n` rows of the gathered array reads them. -/
theorem read_rows {a n : ℕ} {off : Fin 2 → ℕ} (h : ∀ d, off d + (![n, 2048] : Fin 2 → ℕ) d ≤ S2048x2048.size d) (ho : off = ![a, 0]) :
    ((gM : Memref sig .tc .vmem S2048x2048 .bf16).access (Rect.unit (s := S2048x2048) off ![n, 2048] h)).read (Elt F) (gath m) = grows m a n := by
  subst ho
  funext j
  refine congrArg (gath m) (ix_ext ?_ ?_)
  · have hb : a + n ≤ 2048 := h 0
    have hj : (j 0).val < n := (j 0).isLt
    show a + 1 * (j 0).val = (a + (j 0).val) % 2048
    rw [Nat.mod_eq_of_lt (by omega)]; omega
  · show 0 + 1 * (j 1).val = (j 1).val
    omega

omit [FloatOps F] in
/-- A store of `n` rows puts them there. -/
theorem write_rows {a n : ℕ} {off : Fin 2 → ℕ} (h : ∀ d, off d + (![n, 2048] : Fin 2 → ℕ) d ≤ S2048x2048.size d) (ho : off = ![a, 0])
    (f g : FVec F S2048x2048 .bf16) (w : FVec F ⟨2, ![n, 2048]⟩ .bf16)
    (hw : ∀ j, w j = g ((Rect.unit (s := S2048x2048) off ![n, 2048] h).emb j)) :
    ∀ i ∈ rows a n, ((gM : Memref sig .tc .vmem S2048x2048 .bf16).access (Rect.unit (s := S2048x2048) off ![n, 2048] h)).write (Elt F) f w Finset.univ i = g i := by
  intro i hi
  rw [← rect_rows h ho] at hi
  obtain ⟨j, rfl⟩ := LoadRect.exists_idx_of_mem (r := (Rect.unit (s := S2048x2048) off ![n, 2048] h).toLoadRect) hi
  refine Eq.trans (View.write_emb_of_mem (v := (gM : Memref sig .tc .vmem S2048x2048 .bf16).access (Rect.unit (s := S2048x2048) off ![n, 2048] h)) (Val := Elt F) f w (x := j) (Finset.mem_univ j)) ?_
  exact hw j

/-! ## The result -/

set_option backward.proofsInPublic true in
/-- The kernel's result on device `c`: row by row, the product of the gathered row and the device's columns of the
    weights, through the kernel's activation; the opposite device's block is computed in two halves. -/
def outAt (c : Dev nD) : FVec F S2048x512 .f32 := fun i =>
  if rowDev (i 0) = opp c then
    k0_pay9 (win m c) (grows m (256 * ((i 0).val / 256)) 256) (ix (a := 256) (b := 512) ⟨(i 0).val % 256, Nat.mod_lt _ (by decide)⟩ (i 1))
  else
    k0_pay4 (win m c) (grows m (512 * ((i 0).val / 512)) 512) (ix (a := 512) (b := 512) ⟨(i 0).val % 512, Nat.mod_lt _ (by decide)⟩ (i 1))

/-- The result buffer of device `c`, computed on the rows in `P`. -/
def oo (c : Dev nD) (P : ℕ → Prop) : sProp 𝕄 :=
  iprop(∃ f : FVec F S2048x512 .f32, ⌜∀ i : S2048x512.Idx, P (i 0).val → f i = outAt m c i⌝
    ∗ (((c : Thread nD τ).loc cc0_stg2_0) ↦{fullShare} (f : Buf (Elt F) ((c : Thread nD τ).loc cc0_stg2_0))))

/-- What a store of `n` rows of the result leaves: those rows as stored, the others as they were. -/
theorem write_out (c : Dev nD) {a n : ℕ} {off : Fin 2 → ℕ} (h : ∀ d, off d + (![n, 512] : Fin 2 → ℕ) d ≤ S2048x512.size d) (ho : off = ![a, 0])
    (f : FVec F S2048x512 .f32) (w : FVec F ⟨2, ![n, 512]⟩ .f32) (P : ℕ → Prop)
    (hf : ∀ i : S2048x512.Idx, P (i 0).val → f i = outAt m c i)
    (hw : ∀ j, w j = outAt m c ((Rect.unit (s := S2048x512) off ![n, 512] h).emb j)) :
    ∀ i : S2048x512.Idx, (P (i 0).val ∨ (a ≤ (i 0).val ∧ (i 0).val < a + n)) →
      ((oM : Memref sig .tc .vmem S2048x512 .f32).access (Rect.unit (s := S2048x512) off ![n, 512] h)).write (Elt F) f w Finset.univ i = outAt m c i := by
  subst ho
  intro i hi
  by_cases hr : a ≤ (i 0).val ∧ (i 0).val < a + n
  · have hm : i ∈ (Rect.unit (s := S2048x512) ![a, 0] ![n, 512] h).set := by
      refine (LoadRect.mem_set _).mpr fun d => ?_
      fin_cases d
      · exact ⟨(i 0).val - a, (by show (i 0).val - a < n; omega), (by show (i 0 : ℕ) = a + 1 * ((i 0).val - a); omega)⟩
      · exact ⟨(i 1).val, (i 1).isLt, (by show (i 1 : ℕ) = 0 + 1 * (i 1).val; omega)⟩
    obtain ⟨j, rfl⟩ := LoadRect.exists_idx_of_mem (r := (Rect.unit (s := S2048x512) ![a, 0] ![n, 512] h).toLoadRect) hm
    refine Eq.trans (View.write_emb_of_mem (v := (oM : Memref sig .tc .vmem S2048x512 .f32).access (Rect.unit (s := S2048x512) ![a, 0] ![n, 512] h)) (Val := Elt F) f w (x := j) (Finset.mem_univ j)) ?_
    exact hw j
  · refine Eq.trans (View.write_of_not_mem (v := (oM : Memref sig .tc .vmem S2048x512 .f32).access (Rect.unit (s := S2048x512) ![a, 0] ![n, 512] h)) (Val := Elt F) f w Finset.univ ?_) (hf i (hi.resolve_right hr))
    intro hm
    rw [View.setOn_univ, View.set_slice_whole] at hm
    obtain ⟨k, hk, he⟩ := (LoadRect.mem_set _).mp hm 0
    have hk' : k < n := hk
    have he' : (i 0 : ℕ) = a + 1 * k := he
    exact hr (by omega)

/-- The stored payloads are the result's rows: a whole block's, -/
theorem pay_block (c b : Dev nD) (hb : b ≠ opp c) {off : Fin 2 → ℕ} (h : ∀ d, off d + (![512, 512] : Fin 2 → ℕ) d ≤ S2048x512.size d) (ho : off = ![512 * b.val, 0])
    (j : S512x512.Idx) : k0_pay4 (win m c) (grows m (512 * b.val) 512) j = outAt m c ((Rect.unit (s := S2048x512) off ![512, 512] h).emb j) := by
  subst ho
  have hj : (j 0).val < 512 := (j 0).isLt
  have h0 : (((Rect.unit (s := S2048x512) ![512 * b.val, 0] ![512, 512] h).emb j) 0).val = 512 * b.val + (j 0).val := by
    show 512 * b.val + 1 * (j 0).val = _; omega
  have h1 : (((Rect.unit (s := S2048x512) ![512 * b.val, 0] ![512, 512] h).emb j) 1).val = (j 1).val := by
    show 0 + 1 * (j 1).val = _; omega
  generalize (Rect.unit (s := S2048x512) ![512 * b.val, 0] ![512, 512] h).emb j = i at h0 h1
  unfold outAt
  rw [if_neg (fun hc => hb (by rw [← hc]; exact Fin.ext (by show b.val = (i 0).val / 512; omega)))]
  rw [show 512 * ((i 0).val / 512) = 512 * b.val from by omega]
  exact congrArg _ (ix_ext (by show (j 0).val = (i 0).val % 512; omega) h1.symm)

/-- or half of the opposite device's. -/
theorem pay_half (c : Dev nD) (a : ℕ) (ha : a = 512 * (opp c).val ∨ a = 512 * (opp c).val + 256) {off : Fin 2 → ℕ} (h : ∀ d, off d + (![256, 512] : Fin 2 → ℕ) d ≤ S2048x512.size d) (ho : off = ![a, 0])
    (j : S256x512.Idx) : k0_pay9 (win m c) (grows m a 256) j = outAt m c ((Rect.unit (s := S2048x512) off ![256, 512] h).emb j) := by
  subst ho
  have hj : (j 0).val < 256 := (j 0).isLt
  have h0 : (((Rect.unit (s := S2048x512) ![a, 0] ![256, 512] h).emb j) 0).val = a + (j 0).val := by
    show a + 1 * (j 0).val = _; omega
  have h1 : (((Rect.unit (s := S2048x512) ![a, 0] ![256, 512] h).emb j) 1).val = (j 1).val := by
    show 0 + 1 * (j 1).val = _; omega
  generalize (Rect.unit (s := S2048x512) ![a, 0] ![256, 512] h).emb j = i at h0 h1
  unfold outAt
  rw [if_pos (Fin.ext (by show (i 0).val / 512 = (opp c).val; omega))]
  rw [show 256 * ((i 0).val / 256) = a from by omega]
  exact congrArg _ (ix_ext (by show (j 0).val = (i 0).val % 256; omega) h1.symm)

/-! ## The steps -/

section Steps

variable (K : Dev nD × Fin 13 → ℕ)

/-- What never changes: every cell's invariant, and that every cell has begun its round. -/
def records : sProp 𝕄 :=
  iprop((bigSep Finset.univ fun ck : Dev nD × Fin 13 => cellInv ER (sched m) (K ck) (kcell ck))
    ∗ bigSep Finset.univ fun ck : Dev nD × Fin 13 => reached ER (kcell ck) 0)

instance records_persistent : BI.Persistent (records m K) := by unfold records; infer_instance

omit [FloatOps F] in
theorem inv_bar (c : Dev nD) : records m K ⊢ cellInv ER (sched m) (K (c, 0)) (bcell c) := by
  unfold records; iintro ⟨H, -⟩
  iapply (show _ ⊢ cellInv ER (sched m) (K (c, 0)) (bcell c) from
    (bigSep_elim (Φ := fun ck : Dev nD × Fin 13 => cellInv ER (sched m) (K ck) (kcell ck)) (Finset.mem_univ (c, 0))))
  iexact H
omit [FloatOps F] in
theorem reached_bar (c : Dev nD) : records m K ⊢ reached ER (bcell c) 0 := by
  unfold records; iintro ⟨-, H⟩
  iapply (show _ ⊢ (reached ER (bcell c) 0 : sProp 𝕄) from
    (bigSep_elim (Φ := fun ck : Dev nD × Fin 13 => (reached ER (kcell ck) 0 : sProp 𝕄)) (Finset.mem_univ (c, 0))))
  iexact H
omit [FloatOps F] in
theorem inv_dma (c : Dev nD) (s : Fin 15) (h : 3 ≤ s.val) : records m K ⊢ cellInv ER (sched m) (K (c, cix s)) (dcell c s) := by
  unfold records; iintro ⟨H, -⟩
  have e : kcell (c, cix s) = dcell c s := by unfold kcell; rw [csem_cix s h]
  rw [← e]
  iapply (show _ ⊢ cellInv ER (sched m) (K (c, cix s)) (kcell (c, cix s)) from
    (bigSep_elim (Φ := fun ck : Dev nD × Fin 13 => cellInv ER (sched m) (K ck) (kcell ck)) (Finset.mem_univ (c, cix s))))
  iexact H
omit [FloatOps F] in
theorem reached_dma (c : Dev nD) (s : Fin 15) (h : 3 ≤ s.val) : records m K ⊢ reached ER (dcell c s) 0 := by
  unfold records; iintro ⟨-, H⟩
  have e : kcell (c, cix s) = dcell c s := by unfold kcell; rw [csem_cix s h]
  rw [← e]
  iapply (show _ ⊢ (reached ER (kcell (c, cix s)) 0 : sProp 𝕄) from
    (bigSep_elim (Φ := fun ck : Dev nD × Fin 13 => (reached ER (kcell ck) 0 : sProp 𝕄)) (Finset.mem_univ (c, cix s))))
  iexact H

/-- Device `c` owes `A`, whatever it has waited for. -/
def ow (c : Dev nD) (A : CellTallies nD τ sig Unit) : sProp 𝕄 := iprop(∃ W, owes (c : Thread nD τ) A W)

/-- A copy of 256 rows to a neighbour: the share of them that is lent and the neighbour's rows go, a credit for the
    departure comes. -/
theorem send_rows (c d : Dev nD) (s r : Fin 15) (hs : 3 ≤ s.val) (hr : 3 ≤ r.val) (hrs : rowOf d r = rowOf c s) (hfull : shOf r = fullShare)
    (n : Dev nD) (hn : n = d) {off : Fin 2 → ℕ} (h h' : ∀ d, off d + S256x2048.size d ≤ S2048x2048.size d) (ho : off = ![rowOf c s, 0])
    (s' r' : DmaSem sig) (hs' : s' = s) (hr' : r' = r)
    {hsc : ((gM.slice (Rect.unit (s := S2048x2048) off S256x2048.size h') (fun _ => rfl) : Memref sig (Dev.tc n : Thread nD τ).2.kind .vmem S256x2048 .bf16)).view.ref.isScScratch = false}
    {hsrc : (gM.slice (Rect.unit (s := S2048x2048) off S256x2048.size h) (fun _ => rfl) : Memref sig .tc .vmem S256x2048 .bf16).view.WordExact}
    {hdst : (gM.slice (Rect.unit (s := S2048x2048) off S256x2048.size h') (fun _ => rfl) : Memref sig .tc .vmem S256x2048 .bf16).view.WordExact}
    {hsem : DmaTarget.Typed .vmem (.dma r') (.remote (Dev.tc n : Thread nD τ) (gM.slice (Rect.unit (s := S2048x2048) off S256x2048.size h') (fun _ => rfl) : Memref sig .tc .vmem S256x2048 .bf16) (.dma s') hsc)}
    {α : Type} {Q : α → sProp 𝕄} {k : PUnit → Prog (TpuEff nD τ sig (Elt F) Λ₀ .tc) α}
    {A₀ : CellTallies nD τ sig Unit} (A : CellTallies nD τ sig Unit) (hA : A₀ = A + cr d r) :
    iprop(records m K ∗ hp c (rowOf c s) 256 (shOf s) (gath m) ∗ (∃ f, hp d (rowOf c s) 256 fullShare f)
        ∗ ow c A₀ ∗ dutyTok ER (dcell c s) 0 false ∗ dutyTok ER (dcell d r) 0 false)
      ⊢ iprop(((cred (cr c s) ∗ ow c A) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gM.slice (Rect.unit (s := S2048x2048) off S256x2048.size h) (fun _ => rfl) : Memref sig .tc .vmem S256x2048 .bf16)
                (.remote (Dev.tc n : Thread nD τ) (gM.slice (Rect.unit (s := S2048x2048) off S256x2048.size h') (fun _ => rfl) : Memref sig .tc .vmem S256x2048 .bf16) (.dma s') hsc) (.dma r') hsrc hdst hsem) k) Q) := by
  subst hn hs' hr'
  have hset : (gM.slice (Rect.unit (s := S2048x2048) off S256x2048.size h) (fun _ => rfl) : Memref sig .tc .vmem S256x2048 .bf16).view.set = rows (rowOf c s') 256 :=
    (View.set_slice_whole _ _).trans (rect_rows (n := 256) h ho)
  unfold ow
  iintro ⟨#HR, Hsrc, ⟨%f, Hdst⟩, ⟨%W, HO⟩, Ht1, Ht2⟩ Hk
  iapply (Rounds.wp_send_pointsTo 𝒱₀ ER (sched m) (c : Thread nD τ) none (κ₁ := K (c, cix s')) (κ₂ := K (n, cix r'))
    (src := (gM.slice (Rect.unit (s := S2048x2048) off S256x2048.size h) (fun _ => rfl) : Memref sig .tc .vmem S256x2048 .bf16))
    (dst := (gM.slice (Rect.unit (s := S2048x2048) off S256x2048.size h') (fun _ => rfl) : Memref sig .tc .vmem S256x2048 .bf16))
    (c' := (Dev.tc n : Thread nD τ)) (q := shOf s')
    (r₁ := 0) (r₂ := 0) (d₁ := false) (d₂ := false) (fs := gath m) (fd := f)
    (by rw [duties_dma m c s' hs]; exact Finset.mem_singleton_self _) (by rw [duties_dma m n r' hr]; exact Finset.mem_singleton_self _)
    () () N rfl (amount_dma m c s' false) (amount_dma m n r' false) A hA (W := W)
    (by rw [payload_dma]; unfold cpay hp; rw [hset])
    (by
      rw [payload_dma]; unfold cpay
      rw [hrs, hfull]
      refine Entails.of_eq (Eq.trans ?_ (hp_congr n (rowOf c s') 256 fullShare
        (write_rows (n := 256) h ho f (gath m) ((gM.access (Rect.unit (s := S2048x2048) off S256x2048.size h) : View sig .tc _ _ _).read (Elt F) (gath m)) (fun j => rfl))))
      unfold hp; rw [hset])) $$ [Hsrc Hdst HO Ht1 Ht2] [Hk]
  · isplitr; · iapply (inv_dma m K c s' hs); iexact HR
    isplitr; · iapply (inv_dma m K n r' hr); iexact HR
    isplitl [Hsrc]; · unfold hp; rw [hset]; iexact Hsrc
    isplitl [Hdst]; · unfold hp; rw [hset]; iexact Hdst
    isplitl [HO]; · iexact HO
    isplitl [Ht1]; · iexact Ht1
    isplitr; · iapply (reached_dma m K c s' hs); iexact HR
    isplitl [Ht2]; · iexact Ht2
    iapply (reached_dma m K n r' hr); iexact HR
  · iintro ⟨Hc, HO⟩
    iapply Hk
    isplitl [Hc]; · iexact Hc
    iexists W; iexact HO

/-- A wait for a copy's semaphore, made while everything owed stands above it: the rows come. -/
theorem wait_rows (c : Dev nD) (s : Fin 15) (hs : 3 ≤ s.val) (s' : DmaSem sig) (hs' : s' = s) {off off' : Fin 2 → ℕ}
    (h : ∀ d, off d + S256x2048.size d ≤ S2048x2048.size d) (h' : ∀ d, off' d + S256x2048.size d ≤ S2048x2048.size d)
    {hsrc : (gM.slice (Rect.unit (s := S2048x2048) off S256x2048.size h) (fun _ => rfl) : Memref sig .tc .vmem S256x2048 .bf16).view.WordExact}
    {hdst : (gM.slice (Rect.unit (s := S2048x2048) off' S256x2048.size h') (fun _ => rfl) : Memref sig .tc .vmem S256x2048 .bf16).view.WordExact}
    {α : Type} {Q : α → sProp 𝕄} {k : PUnit → Prog (TpuEff nD τ sig (Elt F) Λ₀ .tc) α}
    {n : ℕ} {A : CellTallies nD τ sig Unit} (hA : Above n A) (hl : lv (dcell c s) () ≤ n) :
    iprop(records m K ∗ levAts L lv ∗ cred (cr c s) ∗ ow c A ∗ atPos ER (dcell c s) 0 ∅ 0)
      ⊢ iprop(((ow c A ∗ atPos ER (dcell c s) 1 ∅ 0 ∗ hp c (rowOf c s) 256 (shOf s) (gath m)) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s' (gM.slice (Rect.unit (s := S2048x2048) off S256x2048.size h) (fun _ => rfl) : Memref sig .tc .vmem S256x2048 .bf16)
                (gM.slice (Rect.unit (s := S2048x2048) off' S256x2048.size h') (fun _ => rfl) : Memref sig .tc .vmem S256x2048 .bf16) hsrc hdst) k) Q) := by
  subst hs'
  unfold ow
  iintro ⟨#HR, #Hlev, Hc, ⟨%W, HO⟩, Hat⟩ Hk
  iapply (Rounds.wp_wait_rest_token 𝒱₀ ER (sched m) (c : Thread nD τ) none (κ := K (c, cix s'))
      (wpE_waitDma2_eq (sem := s') (src := (gM.slice (Rect.unit (s := S2048x2048) off S256x2048.size h) (fun _ => rfl) : Memref sig .tc .vmem S256x2048 .bf16))
        (dst := (gM.slice (Rect.unit (s := S2048x2048) off' S256x2048.size h') (fun _ => rfl) : Memref sig .tc .vmem S256x2048 .bf16)) (hsrc := hsrc) (hdst := hdst) 𝒱₀ (c : Thread nD τ) none Set.univ) (Set.mem_univ _) () (k := k) (Q := Q) (O := A) (W := W) (R := 0) (m := 0) (T := ∅)
      (by rw [Nat.zero_add, expect_dma m c s' hs]; rfl)) $$ [Hc HO Hat] [Hk]
  · isplitr; · iapply (inv_dma m K c s' hs); iexact HR
    isplitl [Hc]; · iexact Hc
    isplitl [HO]; · iexact HO
    isplitr; · iapply (mayWait_above hA c (.dma s') hl); iexact Hlev
    iexact Hat
  · iintro ⟨HO, Hat, -, Hp⟩
    ihave Hp := (Entails.of_eq (rest_dma m c s' hs)) $$ Hp
    iapply Hk
    isplitl [HO]; · iexists _; iexact HO
    isplitl [Hat]; · iexact Hat
    unfold cpay; iexact Hp

/-- A load of gathered rows. -/
theorem load_rows (c : Dev nD) (n a : ℕ) {off : Fin 2 → ℕ} (h : ∀ d, off d + (![n, 2048] : Fin 2 → ℕ) d ≤ S2048x2048.size d) (ho : off = ![a, 0]) (q : PosShare TreeShare)
    {hl : (gM : Memref sig .tc .vmem S2048x2048 .bf16).view.LoadsAt (Rect.unit (s := S2048x2048) off ![n, 2048] h).toLoadRect}
    {α : Type} {Q : α → sProp 𝕄} {k : ((Rect.unit (s := S2048x2048) off ![n, 2048] h).toLoadRect.shape.Idx → Elt F .bf16) → Prog (TpuEff nD τ sig (Elt F) Λ₀ .tc) α} :
    (hp c a n q (gath m) : sProp 𝕄)
      ⊢ iprop((hp c a n q (gath m) -∗ wp frame (wpE (defs₀ (F := F)) 𝒱₀ (c : Thread nD τ) none) Set.univ (k (grows m a n)) Q)
          -∗ wp frame (wpE (defs₀ (F := F)) 𝒱₀ (c : Thread nD τ) none) Set.univ
              (.op (.load (gM : Memref sig .tc .vmem S2048x2048 .bf16) (Rect.unit (s := S2048x2048) off ![n, 2048] h).toLoadRect hl) k) Q) := by
  have hset : ((gM : Memref sig .tc .vmem S2048x2048 .bf16).access (Rect.unit (s := S2048x2048) off ![n, 2048] h)).set = rows a n :=
    (View.set_slice_whole _ _).trans (rect_rows h ho)
  iintro Hg Hk
  iapply (wp_load_rect 𝒱₀ (c : Thread nD τ) none Set.univ (m := (gM : Memref sig .tc .vmem S2048x2048 .bf16))
    (r := Rect.unit (s := S2048x2048) off ![n, 2048] h) (hl := hl) (k := k) (S := rows a n) (q := q) (f := gath m) (le_of_eq hset)) $$ [Hg]
  · unfold hp; iexact Hg
  · iintro Hg
    rw [read_rows m h ho]
    iapply Hk
    unfold hp; iexact Hg

/-- A store of rows of the result. -/
theorem store_out (c : Dev nD) (n a : ℕ) {off : Fin 2 → ℕ} (h : ∀ d, off d + (![n, 512] : Fin 2 → ℕ) d ≤ S2048x512.size d) (ho : off = ![a, 0])
    (P : ℕ → Prop) (w : FVec F ⟨2, ![n, 512]⟩ .f32) (hw : ∀ j, w j = outAt m c ((Rect.unit (s := S2048x512) off ![n, 512] h).emb j))
    {hx : ((oM : Memref sig .tc .vmem S2048x512 .f32).access (Rect.unit (s := S2048x512) off ![n, 512] h)).Stores Finset.univ}
    {hm : (Finset.univ : Finset (Rect.unit (s := S2048x512) off ![n, 512] h).shape.Idx) = Finset.univ ∨ ∀ a, (Rect.unit (s := S2048x512) off ![n, 512] h).stride a = 1}
    {α : Type} {Q : α → sProp 𝕄} {k : PUnit → Prog (TpuEff nD τ sig (Elt F) Λ₀ .tc) α} :
    (oo m c P : sProp 𝕄)
      ⊢ iprop((oo m c (fun r => P r ∨ (a ≤ r ∧ r < a + n)) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (oM : Memref sig .tc .vmem S2048x512 .f32) (Rect.unit (s := S2048x512) off ![n, 512] h) w Finset.univ hx hm) k) Q) := by
  unfold oo
  iintro ⟨%f, %hf, Ho⟩ Hk
  iapply (wp_store 𝒱₀ (c : Thread nD τ) none Set.univ (m := (oM : Memref sig .tc .vmem S2048x512 .f32))
    (r := Rect.unit (s := S2048x512) off ![n, 512] h) (w := w) (Mk := Finset.univ) (hx := hx) (hm := hm) (k := k) (f := f) (S := Finset.univ) (Finset.subset_univ _)) $$ Ho
  iintro Ho
  iapply Hk
  iexists _
  isplitr
  · ipureintro; exact write_out m c h ho f w P hf hw
  · iexact Ho

/-- A load of rows of the result, whose value is not used. -/
theorem load_out (c : Dev nD) {r : LoadRect S2048x512} (P : ℕ → Prop)
    {hl : (oM : Memref sig .tc .vmem S2048x512 .f32).view.LoadsAt r}
    {α : Type} {Q : α → sProp 𝕄} {k : (r.shape.Idx → Elt F .f32) → Prog (TpuEff nD τ sig (Elt F) Λ₀ .tc) α} :
    (oo m c P : sProp 𝕄)
      ⊢ iprop((∀ v, oo m c P -∗ wp frame (wpE (defs₀ (F := F)) 𝒱₀ (c : Thread nD τ) none) Set.univ (k v) Q)
          -∗ wp frame (wpE (defs₀ (F := F)) 𝒱₀ (c : Thread nD τ) none) Set.univ
              (.op (.load (oM : Memref sig .tc .vmem S2048x512 .f32) r hl) k) Q) := by
  unfold oo
  iintro ⟨%f, %hf, Ho⟩ Hk
  iapply (wp_load 𝒱₀ (c : Thread nD τ) none Set.univ (m := (oM : Memref sig .tc .vmem S2048x512 .f32)) (r := r) (hl := hl) (k := k) (f := f) (S := Finset.univ) (Finset.subset_univ _)) $$ Ho
  iintro Ho
  iapply Hk
  iexists f
  isplitr
  · ipureintro; exact hf
  · iexact Ho

end Steps

end Cert.KernelIdeal.Ring

end
-- ==== Proof.KernelIdealParts.lean ====
/-
The parts of the kernel's body in program order: the barrier and the own block, the four direct copies, the copies passed
on and the products.
-/
module

public import proofs.«01_k».proof.Proof.KernelIdealSteps

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- The semaphore of departure `k`, and of arrival `k`, as the program names them. -/
abbrev snd (k : ℕ) (h : ∀ a, (![k] : Fin 1 → Nat) a + S1.size a ≤ S6.size a) : DmaSem sig :=
  (((cc0_scratch1 : DmaSems sig S6).slice (Rect.unit (s := S6) ![k] S1.size h)).squeeze S_ squeezes_S1_S_).sem
@[inherit_doc snd] abbrev rcv (k : ℕ) (h : ∀ a, (![k] : Fin 1 → Nat) a + S1.size a ≤ S6.size a) : DmaSem sig :=
  (((cc0_scratch2 : DmaSems sig S6).slice (Rect.unit (s := S6) ![k] S1.size h)).squeeze S_ squeezes_S1_S_).sem

theorem snd0 : snd 0 inb_S6_S1_0 = (3 : Fin 15) := rfl
theorem snd1 : snd 1 inb_S6_S1_1 = (4 : Fin 15) := rfl
theorem snd2 : snd 2 inb_S6_S1_2 = (5 : Fin 15) := rfl
theorem snd3 : snd 3 inb_S6_S1_3 = (6 : Fin 15) := rfl
theorem snd4 : snd 4 inb_S6_S1_4 = (7 : Fin 15) := rfl
theorem snd5 : snd 5 inb_S6_S1_5 = (8 : Fin 15) := rfl
theorem rcv0 : rcv 0 inb_S6_S1_0 = (9 : Fin 15) := rfl
theorem rcv1 : rcv 1 inb_S6_S1_1 = (10 : Fin 15) := rfl
theorem rcv2 : rcv 2 inb_S6_S1_2 = (11 : Fin 15) := rfl
theorem rcv3 : rcv 3 inb_S6_S1_3 = (12 : Fin 15) := rfl
theorem rcv4 : rcv 4 inb_S6_S1_4 = (13 : Fin 15) := rfl
theorem rcv5 : rcv 5 inb_S6_S1_5 = (14 : Fin 15) := rfl

/-- The staged rows of `x`, and the staged weights. -/
def xs (c : Dev nD) : sProp 𝕄 := ((c : Thread nD τ).loc cc0_stg0_0) ↦{fullShare} (xin m c : Buf (Elt F) ((c : Thread nD τ).loc cc0_stg0_0))
@[inherit_doc xs] def ws (c : Dev nD) : sProp 𝕄 := ((c : Thread nD τ).loc cc0_stg1_0) ↦{fullShare} (win m c : Buf (Elt F) ((c : Thread nD τ).loc cc0_stg1_0))

/-- A store of 256 of the device's own rows of `x` into the gathered array, after the load of what was there. -/
theorem store_own (c : Dev nD) (o : ℕ) (ho : o = 0 ∨ o = 256) {off : Fin 2 → ℕ} (h : ∀ d, off d + S256x2048.size d ≤ S2048x2048.size d) (hoff : off = ![512 * c.val + o, 0])
    (hb : ∀ d, (![o, 0] : Fin 2 → ℕ) d + S256x2048.size d ≤ S512x2048.size d)
    (w : FVec F S256x2048 .bf16) (hw : w = (xM : Memref sig .tc .vmem S512x2048 .bf16).view.readAt (Elt F) (Rect.unit (s := S512x2048) ![o, 0] S256x2048.size hb).toLoadRect (xin m c))
    {hl : (gM : Memref sig .tc .vmem S2048x2048 .bf16).view.LoadsAt (Rect.unit (s := S2048x2048) off S256x2048.size h).toLoadRect}
    {hx : ((gM : Memref sig .tc .vmem S2048x2048 .bf16).access (Rect.unit (s := S2048x2048) off S256x2048.size h)).Stores Finset.univ}
    {hm : (Finset.univ : Finset (Rect.unit (s := S2048x2048) off S256x2048.size h).shape.Idx) = Finset.univ ∨ ∀ a, (Rect.unit (s := S2048x2048) off S256x2048.size h).stride a = 1}
    {α : Type} {Q : α → sProp 𝕄} {k : PUnit → Prog (TpuEff nD τ sig (Elt F) Λ₀ .tc) α} (f : FVec F S2048x2048 .bf16) :
    (hp c (512 * c.val + o) 256 fullShare f : sProp 𝕄)
      ⊢ iprop((hp c (512 * c.val + o) 256 fullShare (gath m) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (gM : Memref sig .tc .vmem S2048x2048 .bf16) (Rect.unit (s := S2048x2048) off S256x2048.size h).toLoadRect hl)
                fun _ => .op (.store (gM : Memref sig .tc .vmem S2048x2048 .bf16) (Rect.unit (s := S2048x2048) off S256x2048.size h) w Finset.univ hx hm) k) Q) := by
  have hset : ((gM : Memref sig .tc .vmem S2048x2048 .bf16).access (Rect.unit (s := S2048x2048) off S256x2048.size h)).set = rows (512 * c.val + o) 256 :=
    (View.set_slice_whole _ _).trans (rect_rows (n := 256) h hoff)
  have hc : c.val < 4 := c.isLt
  have hval : ∀ j : S256x2048.Idx, w j = gath m ((Rect.unit (s := S2048x2048) off S256x2048.size h).emb j) := by
    subst hoff
    intro j
    rw [hw]
    have hj : (j 0).val < 256 := (j 0).isLt
    have h0 : (((Rect.unit (s := S2048x2048) ![512 * c.val + o, 0] S256x2048.size h).emb j) 0).val = 512 * c.val + o + (j 0).val := by
      show 512 * c.val + o + 1 * (j 0).val = _; omega
    have h1 : (((Rect.unit (s := S2048x2048) ![512 * c.val + o, 0] S256x2048.size h).emb j) 1).val = (j 1).val := by
      show 0 + 1 * (j 1).val = _; omega
    generalize (Rect.unit (s := S2048x2048) ![512 * c.val + o, 0] S256x2048.size h).emb j = i at h0 h1
    unfold gath
    rw [show rowDev (i 0) = c from Fin.ext (by show (i 0).val / 512 = c.val; omega)]
    refine congrArg (xin m c) (ix_ext ?_ ?_)
    · show o + 1 * (j 0).val = (i 0).val % 512; omega
    · show 0 + 1 * (j 1).val = (i 1).val; omega
  iintro Hg Hk
  iapply (wp_load_rect 𝒱₀ (c : Thread nD τ) none Set.univ (m := (gM : Memref sig .tc .vmem S2048x2048 .bf16))
    (r := Rect.unit (s := S2048x2048) off S256x2048.size h) (hl := hl) (S := rows (512 * c.val + o) 256) (q := fullShare) (f := f) (le_of_eq hset)) $$ [Hg]
  · unfold hp; iexact Hg
  · iintro Hg
    iapply (wp_store 𝒱₀ (c : Thread nD τ) none Set.univ (m := (gM : Memref sig .tc .vmem S2048x2048 .bf16))
      (r := Rect.unit (s := S2048x2048) off S256x2048.size h) (w := w) (Mk := Finset.univ) (hx := hx) (hm := hm) (k := k) (S := rows (512 * c.val + o) 256) (f := f) (le_of_eq hset)) $$ Hg
    iintro Hg
    iapply Hk
    rw [← hp_congr c (512 * c.val + o) 256 fullShare (write_rows (n := 256) h hoff f (gath m) w hval)]
    unfold hp; iexact Hg

set_option maxHeartbeats 1000000 in
/-- Up to the barrier: both neighbours told, with the rows they are to fill; the own block stored; the barrier waited for. -/
theorem part2 (c : Dev nD) (v2 v13 v24 : BitVec 32) (Q : PUnit → sProp 𝕄) :
    iprop(records m K ∗ levAts L lv ∗ ow c (O₀ c) ∗ dutyTok ER (bcell (lft c)) 0 true ∗ dutyTok ER (bcell (rgt c)) 0 false
        ∗ cred (tallyAt (bcell c) () 2) ∗ atPos ER (bcell c) 0 ∅ 0 ∗ barR (lft c) ∗ barL (rgt c)
        ∗ (∃ f, hp c (512 * c.val) 256 fullShare f) ∗ (∃ f, hp c (512 * c.val + 256) 256 fullShare f) ∗ xs m c)
      ⊢ iprop(((ow c (T6 c) ∗ atPos ER (bcell c) 1 ∅ 0 ∗ barL c ∗ barR c
            ∗ hp c (512 * c.val) 256 fullShare (gath m) ∗ hp c (512 * c.val + 256) 256 fullShare (gath m) ∗ xs m c) -∗ Q ⟨⟩)
          -∗ wp frame (wpE (defs₀ (F := F)) 𝒱₀ (c : Thread nD τ) none) Set.univ
            (k0_part2 xM (Memref.isWhole_whole _) wM (Memref.isWhole_whole _) oM (Memref.isWhole_whole _) gM (Memref.isWhole_whole _) cc0_scratch1 cc0_scratch2 c v2 v13 v24) Q) := by
  simp only [k0_part2_eq_skeleton]; unfold k0_part2_skel
  simp only [semSignalWord, semWaitWord, Prog.lift, Prog.bind_op, Prog.bind_ret, Prog.pure_eq_ret]
  simp only [dev1_eq c, dev2_eq c]
  unfold ow
  iintro ⟨#HR, #Hlev, ⟨%W, HO⟩, HtL, HtR, Hc, Hat, HpR, HpL, ⟨%f0, Hu⟩, ⟨%f1, Hd⟩, Hx⟩ Hk
  iapply (Rounds.wp_signal 𝒱₀ ER (sched m) (c : Thread nD τ) none (dst := (lft c : Thread nD τ)) (κ := K (lft c, 0))
      (d := true) (by rw [duties_bar]; exact Finset.mem_univ _) ((amount_bar m (lft c) true).trans (by decide)) () (T7 c) rfl) $$ [HO HtL HpR]
  · isplitr; · iapply (inv_bar m K (lft c)); iexact HR
    isplitl [HO]; · iexact HO
    isplitl [HtL]; · iexact HtL
    isplitl [HpR]; · rw [payload_bar_true]; iexact HpR
    iapply (reached_bar m K (lft c)); iexact HR
  iintro HO
  iapply (Rounds.wp_signal 𝒱₀ ER (sched m) (c : Thread nD τ) none (dst := (rgt c : Thread nD τ)) (κ := K (rgt c, 0))
      (d := false) (by rw [duties_bar]; exact Finset.mem_univ _) ((amount_bar m (rgt c) false).trans (by decide)) () (T6 c) rfl) $$ [HO HtR HpL]
  · isplitr; · iapply (inv_bar m K (rgt c)); iexact HR
    isplitl [HO]; · iexact HO
    isplitl [HtR]; · iexact HtR
    isplitl [HpL]; · rw [payload_bar_false]; iexact HpL
    iapply (reached_bar m K (rgt c)); iexact HR
  iintro HO
  unfold xs
  iapply (wp_load 𝒱₀ (c : Thread nD τ) none Set.univ (m := (xM : Memref sig .tc .vmem S512x2048 .bf16)) (Finset.subset_univ _)) $$ Hx; iintro Hx
  iapply (store_own m c 0 (.inl rfl) (k0_off1_inb c) ((off1_eq c).trans rfl) inb_S512x2048_S256x2048_0_0 _
    ((shapeCast_self _ _).trans (shapeCast_self _ _)) f0) $$ Hu
  iintro Hu
  iapply (wp_load 𝒱₀ (c : Thread nD τ) none Set.univ (m := (xM : Memref sig .tc .vmem S512x2048 .bf16)) (Finset.subset_univ _)) $$ Hx; iintro Hx
  iapply (store_own m c 256 (.inr rfl) (k0_off2_inb c) (off2_eq c) inb_S512x2048_S256x2048_256_0 _
    ((shapeCast_self _ _).trans (shapeCast_self _ _)) f1) $$ Hd
  iintro Hd
  iapply (Rounds.wp_wait_rest_token 𝒱₀ ER (sched m) (c : Thread nD τ) none (κ := K (c, 0))
      (wpE_semWait_eq 𝒱₀ (c : Thread nD τ) none Set.univ) (Set.mem_univ _) () (O := T6 c) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_above (above_T6 c) c (.reg barS) (le_of_eq (lv_bar c))); iexact Hlev
    iexact Hat
  iintro ⟨HO, Hat, -, Hp⟩
  ihave Hp := (Entails.of_eq (rest_bar m c)) $$ Hp
  icases Hp with ⟨HpL, HpR⟩
  rw [wp_ret]; imodintro
  iapply Hk
  isplitl [HO]; · iexists _; iexact HO
  isplitl [Hat]; · iexact Hat
  isplitl [HpL]; · iexact HpL
  isplitl [HpR]; · iexact HpR
  isplitl [Hu]; · iexact Hu
  isplitl [Hd]; · iexact Hd
  iexact Hx

/-- Half of a held share, and the other half. -/
theorem halve (c : Dev nD) (a : ℕ) (q : PosShare TreeShare) :
    (hp c a 256 q (gath m) : sProp 𝕄) ⊢ iprop(hp c a 256 q.left (gath m) ∗ hp c a 256 q.right (gath m)) := (hp_share c a 256 q (gath m)).1
theorem unhalve (c : Dev nD) (a : ℕ) (q : PosShare TreeShare) :
    iprop(hp c a 256 q.left (gath m) ∗ hp c a 256 q.right (gath m)) ⊢ (hp c a 256 q (gath m) : sProp 𝕄) := (hp_share c a 256 q (gath m)).2

theorem read_w (c : Dev nD) : (wM : Memref sig .tc .vmem S2048x512 .bf16).view.readAt (Elt F) (Rect.unit (s := S2048x512) ![0, 0] S2048x512.size inb_S2048x512_S2048x512_0_0).toLoadRect (win m c) = win m c :=
  Memref.readAt_unit_zero (Elt F) cc0_stg1_0 (funext fun a => by fin_cases a <;> rfl) _ _

set_option maxHeartbeats 1000000 in
/-- The four direct copies, each lending a quarter of half a block; the weights are read. -/
theorem part3 (c : Dev nD) (v2 v13 v24 : BitVec 32) (Q : (Σ' (_ : FVec F S2048x512 .bf16), BitVec 32) → sProp 𝕄) :
    iprop(records m K ∗ ow c (T6 c)
        ∗ (hp c (512 * c.val) 256 fullShare (gath m) ∗ hp c (512 * c.val + 256) 256 fullShare (gath m))
        ∗ ((∃ f, hp (rgt c) (512 * c.val) 256 fullShare f) ∗ (∃ f, hp (rgt c) (512 * c.val + 256) 256 fullShare f)
          ∗ (∃ f, hp (lft c) (512 * c.val) 256 fullShare f) ∗ (∃ f, hp (lft c) (512 * c.val + 256) 256 fullShare f))
        ∗ (dutyTok ER (dcell c 3) 0 false ∗ dutyTok ER (dcell c 4) 0 false ∗ dutyTok ER (dcell c 6) 0 false ∗ dutyTok ER (dcell c 7) 0 false)
        ∗ (dutyTok ER (dcell (rgt c) 9) 0 false ∗ dutyTok ER (dcell (rgt c) 10) 0 false ∗ dutyTok ER (dcell (lft c) 12) 0 false ∗ dutyTok ER (dcell (lft c) 13) 0 false)
        ∗ ws m c)
      ⊢ iprop(((ow c (T2 c)
            ∗ (hp c (512 * c.val) 256 fullShare.right (gath m) ∗ hp c (512 * c.val + 256) 256 fullShare.right (gath m))
            ∗ (cred (cr c 3) ∗ cred (cr c 4) ∗ cred (cr c 6) ∗ cred (cr c 7))
            ∗ ws m c) -∗ Q ⟨win m c, Scalar.muli v2 512#32⟩)
          -∗ wp frame (wpE (defs₀ (F := F)) 𝒱₀ (c : Thread nD τ) none) Set.univ
            (k0_part3 xM (Memref.isWhole_whole _) wM (Memref.isWhole_whole _) oM (Memref.isWhole_whole _) gM (Memref.isWhole_whole _) cc0_scratch1 cc0_scratch2 c v2 v13 v24) Q) := by
  simp only [k0_part3_eq_skeleton]; unfold k0_part3_skel
  simp only [Prog.lift, Prog.bind_op, Prog.bind_ret, Prog.pure_eq_ret]
  iintro ⟨#HR, HO, ⟨Hu, Hd⟩, ⟨Hru, Hrd, Hlu, Hld⟩, ⟨Ht3, Ht4, Ht6, Ht7⟩, ⟨Ht9, Ht10, Ht12, Ht13⟩, Hw⟩ Hk
  ihave Hu := (halve m c _ _) $$ Hu; icases Hu with ⟨Hu, HuR⟩
  ihave Hu := (halve m c _ _) $$ Hu; icases Hu with ⟨HuA, HuB⟩
  ihave Hd := (halve m c _ _) $$ Hd; icases Hd with ⟨Hd, HdR⟩
  ihave Hd := (halve m c _ _) $$ Hd; icases Hd with ⟨HdA, HdB⟩
  iapply (send_rows m K c (rgt c) 3 9 (by decide) (by decide) (by show 512 * (lft (rgt c)).val = 512 * c.val; rw [lft_rgt]) rfl
    _ (dev3_eq c) (k0_off3_inb c) (k0_off3_inb c) (off3_eq c) _ _ snd0 rcv0 (T5 c) rfl) $$ [HuA Hru HO Ht3 Ht9]
  · isplitr; · iexact HR
    isplitl [HuA]; · iexact HuA
    isplitl [Hru]; · iexact Hru
    isplitl [HO]; · iexact HO
    isplitl [Ht3]; · iexact Ht3
    iexact Ht9
  iintro ⟨Hc3, HO⟩
  iapply (send_rows m K c (lft c) 6 12 (by decide) (by decide) (by show 512 * (rgt (lft c)).val + 256 = 512 * c.val + 256; rw [rgt_lft]) rfl
    _ (dev4_eq c) (k0_off4_inb c) (k0_off4_inb c) (off4_eq c) _ _ snd3 rcv3 (T4 c) rfl) $$ [HdB Hld HO Ht6 Ht12]
  · isplitr; · iexact HR
    isplitl [HdB]; · iexact HdB
    isplitl [Hld]; · iexact Hld
    isplitl [HO]; · iexact HO
    isplitl [Ht6]; · iexact Ht6
    iexact Ht12
  iintro ⟨Hc6, HO⟩
  iapply (send_rows m K c (rgt c) 4 10 (by decide) (by decide) (by show 512 * (lft (rgt c)).val + 256 = 512 * c.val + 256; rw [lft_rgt]) rfl
    _ (dev5_eq c) (k0_off4_inb c) (k0_off4_inb c) (off4_eq c) _ _ snd1 rcv1 (T3 c) rfl) $$ [HdA Hrd HO Ht4 Ht10]
  · isplitr; · iexact HR
    isplitl [HdA]; · iexact HdA
    isplitl [Hrd]; · iexact Hrd
    isplitl [HO]; · iexact HO
    isplitl [Ht4]; · iexact Ht4
    iexact Ht10
  iintro ⟨Hc4, HO⟩
  iapply (send_rows m K c (lft c) 7 13 (by decide) (by decide) (by show 512 * (rgt (lft c)).val = 512 * c.val; rw [rgt_lft]) rfl
    _ (dev6_eq c) (k0_off3_inb c) (k0_off3_inb c) (off3_eq c) _ _ snd4 rcv4 (T2 c) rfl) $$ [HuB Hlu HO Ht7 Ht13]
  · isplitr; · iexact HR
    isplitl [HuB]; · iexact HuB
    isplitl [Hlu]; · iexact Hlu
    isplitl [HO]; · iexact HO
    isplitl [Ht7]; · iexact Ht7
    iexact Ht13
  iintro ⟨Hc7, HO⟩
  unfold ws
  iapply (wp_load 𝒱₀ (c : Thread nD τ) none Set.univ (m := (wM : Memref sig .tc .vmem S2048x512 .bf16)) (Finset.subset_univ _)) $$ Hw; iintro Hw
  rw [wp_ret]; imodintro
  rw [read_w m c, show k0_pay3 (win m c) = win m c from shapeCast_self _ _]
  iapply Hk
  isplitl [HO]; · iexact HO
  isplitl [HuR HdR]
  · isplitl [HuR]; · iexact HuR
    iexact HdR
  isplitl [Hc3 Hc4 Hc6 Hc7]
  · isplitl [Hc3]; · iexact Hc3
    isplitl [Hc4]; · iexact Hc4
    isplitl [Hc6]; · iexact Hc6
    iexact Hc7
  iexact Hw

/-- Two adjoining halves of a block make it. -/
theorem join_block (c : Dev nD) (a : ℕ) (q : PosShare TreeShare) :
    iprop(hp c a 256 q (gath m) ∗ hp c (a + 256) 256 q (gath m)) ⊢ (hp c a 512 q (gath m) : sProp 𝕄) := (hp_append c a 256 256 q (gath m)).2
@[inherit_doc join_block] theorem unjoin_block (c : Dev nD) (a : ℕ) (q : PosShare TreeShare) :
    (hp c a 512 q (gath m) : sProp 𝕄) ⊢ iprop(hp c a 256 q (gath m) ∗ hp c (a + 256) 256 q (gath m)) := (hp_append c a 256 256 q (gath m)).1

theorem self_ne_opp (c : Dev nD) : c ≠ opp c := by revert c; decide
theorem lft_ne_opp (c : Dev nD) : lft c ≠ opp c := by revert c; decide
theorem rgt_ne_opp (c : Dev nD) : rgt c ≠ opp c := by revert c; decide

/-- The rows of block `b`, and half of them from row `a`. -/
def inBlock (b : Dev nD) (r : ℕ) : Prop := 512 * b.val ≤ r ∧ r < 512 * b.val + 512
@[inherit_doc inBlock] def inHalf (a r : ℕ) : Prop := a ≤ r ∧ r < a + 256

set_option maxHeartbeats 1000000 in
/-- The product of the own block; the upper half of the left neighbour's block arrives and is passed on; the lower half of
    the right neighbour's arrives. -/
theorem part4 (c : Dev nD) (v13 v24 v96 : BitVec 32) (P : ℕ → Prop) (Q : PUnit → sProp 𝕄) :
    iprop(records m K ∗ levAts L lv ∗ ow c (T2 c)
        ∗ (hp c (512 * c.val) 256 fullShare.right (gath m) ∗ hp c (512 * c.val + 256) 256 fullShare.right (gath m))
        ∗ oo m c P
        ∗ (cred (cr c 9) ∗ atPos ER (dcell c 9) 0 ∅ 0)
        ∗ ((∃ f, hp (rgt c) (512 * (lft c).val) 256 fullShare f) ∗ dutyTok ER (dcell c 5) 0 false ∗ dutyTok ER (dcell (rgt c) 11) 0 false)
        ∗ (cred (cr c 12) ∗ atPos ER (dcell c 12) 0 ∅ 0))
      ⊢ iprop(((ow c (T1 c)
            ∗ (hp c (512 * c.val) 256 fullShare.right (gath m) ∗ hp c (512 * c.val + 256) 256 fullShare.right (gath m))
            ∗ oo m c (fun r => P r ∨ inBlock c r)
            ∗ (atPos ER (dcell c 9) 1 ∅ 0 ∗ hp c (512 * (lft c).val) 256 fullShare.right (gath m))
            ∗ cred (cr c 5)
            ∗ (atPos ER (dcell c 12) 1 ∅ 0 ∗ hp c (512 * (rgt c).val + 256) 256 fullShare (gath m))) -∗ Q ⟨⟩)
          -∗ wp frame (wpE (defs₀ (F := F)) 𝒱₀ (c : Thread nD τ) none) Set.univ
            (k0_part4 xM (Memref.isWhole_whole _) wM (Memref.isWhole_whole _) oM (Memref.isWhole_whole _) gM (Memref.isWhole_whole _) cc0_scratch1 cc0_scratch2 c v13 v24 (win m c) v96) Q) := by
  simp only [k0_part4_eq_skeleton]; unfold k0_part4_skel
  simp only [Prog.lift, Prog.bind_op, Prog.bind_ret, Prog.pure_eq_ret]
  iintro ⟨#HR, #Hlev, HO, ⟨Hu, Hd⟩, Ho, ⟨Hc9, Ha9⟩, ⟨Hr, Ht5, Ht11⟩, ⟨Hc12, Ha12⟩⟩ Hk
  ihave Hg := (join_block m c _ _) $$ [Hu Hd]
  · isplitl [Hu]; · iexact Hu
    iexact Hd
  iapply (load_rows m c 512 (512 * c.val) (k0_off5_inb c) (off5_eq c) _) $$ Hg; iintro Hg
  ihave Hg := (unjoin_block m c _ _) $$ Hg; icases Hg with ⟨Hu, Hd⟩
  iapply (load_out m c P) $$ Ho; iintro %v Ho
  iapply (store_out m c 512 (512 * c.val) (k0_off6_inb c) (off6_eq c) P _ (pay_block m c c (self_ne_opp c) (k0_off6_inb c) (off6_eq c))) $$ Ho; iintro Ho
  iapply (wait_rows m K c 9 (by decide) _ rcv0 (k0_off3_inb c) (k0_off3_inb c) (above_T2 c) (by decide : (2 : ℕ) ≤ 2)) $$ [Hc9 HO Ha9]
  · isplitr; · iexact HR
    isplitr; · iexact Hlev
    isplitl [Hc9]; · iexact Hc9
    isplitl [HO]; · iexact HO
    iexact Ha9
  iintro ⟨HO, Ha9, Hl⟩
  ihave Hl := (halve m c _ _) $$ Hl; icases Hl with ⟨HlL, HlR⟩
  iapply (send_rows m K c (rgt c) 5 11 (by decide) (by decide) (by show 512 * (opp (rgt c)).val = 512 * (lft c).val; rw [opp_rgt]) rfl
    _ (dev7_eq c) (k0_off7_inb c) (k0_off7_inb c) (off7_eq c) _ _ snd2 rcv2 (T1 c) rfl) $$ [HlL Hr HO Ht5 Ht11]
  · isplitr; · iexact HR
    isplitl [HlL]; · iexact HlL
    isplitl [Hr]; · iexact Hr
    isplitl [HO]; · iexact HO
    isplitl [Ht5]; · iexact Ht5
    iexact Ht11
  iintro ⟨Hc5, HO⟩
  iapply (wait_rows m K c 12 (by decide) _ rcv3 (k0_off4_inb c) (k0_off4_inb c) (above_T1 c) (by decide : (2 : ℕ) ≤ 2)) $$ [Hc12 HO Ha12]
  · isplitr; · iexact HR
    isplitr; · iexact Hlev
    isplitl [Hc12]; · iexact Hc12
    isplitl [HO]; · iexact HO
    iexact Ha12
  iintro ⟨HO, Ha12, Hb⟩
  rw [wp_ret]; imodintro
  iapply Hk
  isplitl [HO]; · iexact HO
  isplitl [Hu Hd]
  · isplitl [Hu]; · iexact Hu
    iexact Hd
  isplitl [Ho]; · iexact Ho
  isplitl [Ha9 HlR]
  · isplitl [Ha9]; · iexact Ha9
    iexact HlR
  isplitl [Hc5]; · iexact Hc5
  isplitl [Ha12]; · iexact Ha12
  iexact Hb

set_option maxHeartbeats 1000000 in
/-- The lower half of the right neighbour's block is passed on; the rest of both neighbours' blocks arrives; the product of
    the left one is stored and that of the right one computed. -/
theorem part5 (c : Dev nD) (v13 v24 : BitVec 32) (P : ℕ → Prop) (Q : (Σ' (_ : BitVec 32) (_ : FVec F S512x512 .f32), FVec F S512x512 .f32) → sProp 𝕄) :
    iprop(records m K ∗ levAts L lv ∗ ow c (T1 c)
        ∗ (hp c (512 * (rgt c).val + 256) 256 fullShare (gath m) ∗ (∃ f, hp (lft c) (512 * (rgt c).val + 256) 256 fullShare f)
          ∗ dutyTok ER (dcell c 8) 0 false ∗ dutyTok ER (dcell (lft c) 14) 0 false)
        ∗ (cred (cr c 10) ∗ atPos ER (dcell c 10) 0 ∅ 0)
        ∗ hp c (512 * (lft c).val) 256 fullShare.right (gath m)
        ∗ oo m c P
        ∗ (cred (cr c 13) ∗ atPos ER (dcell c 13) 0 ∅ 0))
      ⊢ iprop(((ow c 0 ∗ cred (cr c 8) ∗ (atPos ER (dcell c 10) 1 ∅ 0 ∗ atPos ER (dcell c 13) 1 ∅ 0)
            ∗ (hp c (512 * (lft c).val) 256 fullShare.right (gath m) ∗ hp c (512 * (lft c).val + 256) 256 fullShare (gath m))
            ∗ (hp c (512 * (rgt c).val) 256 fullShare (gath m) ∗ hp c (512 * (rgt c).val + 256) 256 fullShare.right (gath m))
            ∗ oo m c (fun r => P r ∨ inBlock (lft c) r)) -∗ Q ⟨Scalar.muli v24 512#32, k0_pay6 (win m c) (grows m (512 * (rgt c).val) 512), k0_pay7 (win m c) (grows m (512 * (rgt c).val) 512)⟩)
          -∗ wp frame (wpE (defs₀ (F := F)) 𝒱₀ (c : Thread nD τ) none) Set.univ
            (k0_part5 xM (Memref.isWhole_whole _) wM (Memref.isWhole_whole _) oM (Memref.isWhole_whole _) gM (Memref.isWhole_whole _) cc0_scratch1 cc0_scratch2 c v13 v24 (win m c)) Q) := by
  simp only [k0_part5_eq_skeleton]; unfold k0_part5_skel
  simp only [Prog.lift, Prog.bind_op, Prog.bind_ret, Prog.pure_eq_ret]
  iintro ⟨#HR, #Hlev, HO, ⟨Hb, Hl, Ht8, Ht14⟩, ⟨Hc10, Ha10⟩, HlR, Ho, ⟨Hc13, Ha13⟩⟩ Hk
  ihave Hb := (halve m c _ _) $$ Hb; icases Hb with ⟨HbL, HbR⟩
  iapply (send_rows m K c (lft c) 8 14 (by decide) (by decide) (by show 512 * (opp (lft c)).val + 256 = 512 * (rgt c).val + 256; rw [opp_lft]) rfl
    _ (dev8_eq c) (k0_off8_inb c) (k0_off8_inb c) (off8_eq c) _ _ snd5 rcv5 0 rfl) $$ [HbL Hl HO Ht8 Ht14]
  · isplitr; · iexact HR
    isplitl [HbL]; · iexact HbL
    isplitl [Hl]; · iexact Hl
    isplitl [HO]; · iexact HO
    isplitl [Ht8]; · iexact Ht8
    iexact Ht14
  iintro ⟨Hc8, HO⟩
  iapply (wait_rows m K c 10 (by decide) _ rcv1 (k0_off4_inb c) (k0_off4_inb c) (above_zero 2) (by decide : (2 : ℕ) ≤ 2)) $$ [Hc10 HO Ha10]
  · isplitr; · iexact HR
    isplitr; · iexact Hlev
    isplitl [Hc10]; · iexact Hc10
    isplitl [HO]; · iexact HO
    iexact Ha10
  iintro ⟨HO, Ha10, Hd⟩
  ihave Hd := (halve m c _ _) $$ Hd; icases Hd with ⟨HdL, HdR⟩
  ihave Hg := (join_block m c (512 * (lft c).val) fullShare.right) $$ [HlR HdR]
  · isplitl [HlR]; · iexact HlR
    iexact HdR
  iapply (load_rows m c 512 (512 * (lft c).val) (k0_off9_inb c) (off9_eq c) _) $$ Hg; iintro Hg
  ihave Hg := (unjoin_block m c _ _) $$ Hg; icases Hg with ⟨HlR, HdR⟩
  ihave Hd := (unhalve m c (512 * (lft c).val + 256) fullShare) $$ [HdL HdR]
  · isplitl [HdL]; · iexact HdL
    iexact HdR
  iapply (load_out m c P) $$ Ho; iintro %v Ho
  iapply (store_out m c 512 (512 * (lft c).val) (k0_off10_inb c) (off10_eq c) P _ (pay_block m c (lft c) (lft_ne_opp c) (k0_off10_inb c) (off10_eq c))) $$ Ho; iintro Ho
  iapply (wait_rows m K c 13 (by decide) _ rcv4 (k0_off3_inb c) (k0_off3_inb c) (above_zero 2) (by decide : (2 : ℕ) ≤ 2)) $$ [Hc13 HO Ha13]
  · isplitr; · iexact HR
    isplitr; · iexact Hlev
    isplitl [Hc13]; · iexact Hc13
    isplitl [HO]; · iexact HO
    iexact Ha13
  iintro ⟨HO, Ha13, Hu⟩
  ihave Hu := (halve m c _ _) $$ Hu; icases Hu with ⟨HuL, HuR⟩
  ihave Hg := (join_block m c (512 * (rgt c).val) fullShare.right) $$ [HuR HbR]
  · isplitl [HuR]; · iexact HuR
    iexact HbR
  iapply (load_rows m c 512 (512 * (rgt c).val) (k0_off11_inb c) (off11_eq c) _) $$ Hg; iintro Hg
  ihave Hg := (unjoin_block m c _ _) $$ Hg; icases Hg with ⟨HuR, HbR⟩
  ihave Hu := (unhalve m c (512 * (rgt c).val) fullShare) $$ [HuL HuR]
  · isplitl [HuL]; · iexact HuL
    iexact HuR
  rw [wp_ret]; imodintro
  iapply Hk
  isplitl [HO]; · iexact HO
  isplitl [Hc8]; · iexact Hc8
  isplitl [Ha10 Ha13]
  · isplitl [Ha10]; · iexact Ha10
    iexact Ha13
  isplitl [HlR Hd]
  · isplitl [HlR]; · iexact HlR
    iexact Hd
  isplitl [Hu HbR]
  · isplitl [Hu]; · iexact Hu
    iexact HbR
  iexact Ho

set_option maxHeartbeats 1000000 in
/-- The right neighbour's product is stored; the halves of the opposite device's block arrive, each with its product. -/
theorem part6 (c : Dev nD) (v13 v24 v35 v155 : BitVec 32) (P : ℕ → Prop) (Q : PUnit → sProp 𝕄) :
    iprop(records m K ∗ levAts L lv ∗ ow c 0 ∗ oo m c P
        ∗ (cred (cr c 11) ∗ atPos ER (dcell c 11) 0 ∅ 0) ∗ (cred (cr c 14) ∗ atPos ER (dcell c 14) 0 ∅ 0))
      ⊢ iprop(((ow c 0 ∗ oo m c (fun r => ((P r ∨ inBlock (rgt c) r) ∨ inHalf (512 * (opp c).val) r) ∨ inHalf (512 * (opp c).val + 256) r)
            ∗ (atPos ER (dcell c 11) 1 ∅ 0 ∗ hp c (512 * (opp c).val) 256 fullShare (gath m))
            ∗ (atPos ER (dcell c 14) 1 ∅ 0 ∗ hp c (512 * (opp c).val + 256) 256 fullShare (gath m))) -∗ Q ⟨⟩)
          -∗ wp frame (wpE (defs₀ (F := F)) 𝒱₀ (c : Thread nD τ) none) Set.univ
            (k0_part6 xM (Memref.isWhole_whole _) wM (Memref.isWhole_whole _) oM (Memref.isWhole_whole _) gM (Memref.isWhole_whole _) cc0_scratch1 cc0_scratch2 c v13 v24 v35 (win m c) v155
              (k0_pay6 (win m c) (grows m (512 * (rgt c).val) 512)) (k0_pay7 (win m c) (grows m (512 * (rgt c).val) 512))) Q) := by
  simp only [k0_part6_eq_skeleton]; unfold k0_part6_skel
  simp only [Prog.lift, Prog.bind_op, Prog.bind_ret, Prog.pure_eq_ret]
  iintro ⟨#HR, #Hlev, HO, Ho, ⟨Hc11, Ha11⟩, ⟨Hc14, Ha14⟩⟩ Hk
  iapply (load_out m c P) $$ Ho; iintro %v Ho
  iapply (store_out m c 512 (512 * (rgt c).val) (k0_off12_inb c) (off12_eq c) P _ (pay_block m c (rgt c) (rgt_ne_opp c) (k0_off12_inb c) (off12_eq c))) $$ Ho; iintro Ho
  iapply (wait_rows m K c 11 (by decide) _ rcv2 (k0_off7_inb c) (k0_off7_inb c) (above_zero 3) (by decide : (3 : ℕ) ≤ 3)) $$ [Hc11 HO Ha11]
  · isplitr; · iexact HR
    isplitr; · iexact Hlev
    isplitl [Hc11]; · iexact Hc11
    isplitl [HO]; · iexact HO
    iexact Ha11
  iintro ⟨HO, Ha11, Hu⟩
  ihave Hu := (show hp c (rowOf c 11) 256 (shOf 11) (gath m) ⊢ hp c (512 * (opp c).val) 256 fullShare (gath m) from BI.Entails.refl _) $$ Hu
  iapply (load_rows m c 256 (512 * (opp c).val) (k0_off13_inb c) (off13_eq c) fullShare) $$ Hu; iintro Hu
  iapply (load_out m c _) $$ Ho; iintro %v2 Ho
  iapply (store_out m c 256 (512 * (opp c).val) (k0_off14_inb c) (off14_eq c) _ _ (pay_half m c _ (.inl rfl) (k0_off14_inb c) (off14_eq c))) $$ Ho; iintro Ho
  iapply (wait_rows m K c 14 (by decide) _ rcv5 (k0_off8_inb c) (k0_off8_inb c) (above_zero 3) (by decide : (3 : ℕ) ≤ 3)) $$ [Hc14 HO Ha14]
  · isplitr; · iexact HR
    isplitr; · iexact Hlev
    isplitl [Hc14]; · iexact Hc14
    isplitl [HO]; · iexact HO
    iexact Ha14
  iintro ⟨HO, Ha14, Hd⟩
  ihave Hd := (show hp c (rowOf c 14) 256 (shOf 14) (gath m) ⊢ hp c (512 * (opp c).val + 256) 256 fullShare (gath m) from BI.Entails.refl _) $$ Hd
  iapply (load_rows m c 256 (512 * (opp c).val + 256) (k0_off15_inb c) (off15_eq c) fullShare) $$ Hd; iintro Hd
  iapply (load_out m c _) $$ Ho; iintro %v3 Ho
  iapply (store_out m c 256 (512 * (opp c).val + 256) (k0_off16_inb c) (off16_eq c) _ _ (pay_half m c _ (.inr rfl) (k0_off16_inb c) (off16_eq c))) $$ Ho; iintro Ho
  rw [wp_ret]; imodintro
  iapply Hk
  isplitl [HO]; · iexact HO
  isplitl [Ho]; · iexact Ho
  isplitl [Ha11 Hu]
  · isplitl [Ha11]; · iexact Ha11
    iexact Hu
  isplitl [Ha14]; · iexact Ha14
  iexact Hd

end Cert.KernelIdeal.Ring

end
-- ==== Proof.KernelIdealBody.lean ====
/-
The whole body on one device: what it starts from, what it ends with, and the obligation the pipeline sets it.
-/
module

public import proofs.«01_k».proof.Proof.KernelIdealParts

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : (c : Dev nD) → PrngReg) (K : Dev nD × Fin 13 → ℕ)

/-! ## The gathered array in blocks -/

omit [FloatOps F] in
/-- The whole array is the block of every device, from `c`'s own on. -/
theorem hp_blocks (c : Dev nD) (f : FVec F S2048x2048 .bf16) :
    (hp c 0 2048 fullShare f : sProp 𝕄)
      ⊣⊢ iprop(hp c (512 * c.val) 512 fullShare f ∗ hp c (512 * (lft c).val) 512 fullShare f
        ∗ hp c (512 * (rgt c).val) 512 fullShare f ∗ hp c (512 * (opp c).val) 512 fullShare f) := by
  have h1 : (hp c 0 2048 fullShare f : sProp 𝕄) ⊣⊢ bigSep Finset.univ fun b : Dev nD => hp c (512 * b.val) 512 fullShare f := by
    rw [bigSep_univ_eq_bigSepL [(0 : Dev nD), (1 : Dev nD), (2 : Dev nD), (3 : Dev nD)] (by decide) (by decide)]
    show (hp c 0 2048 fullShare f : sProp 𝕄) ⊣⊢ iprop(hp c 0 512 fullShare f ∗ hp c 512 512 fullShare f ∗ hp c 1024 512 fullShare f ∗ hp c 1536 512 fullShare f)
    have a1 := hp_append (F := F) c 0 512 1536 fullShare f
    have a2 := hp_append (F := F) c 512 512 1024 fullShare f
    have a3 := hp_append (F := F) c 1024 512 512 fullShare f
    exact ⟨a1.1.trans (sep_mono_right (a2.1.trans (sep_mono_right a3.1))), (sep_mono_right ((sep_mono_right a3.2).trans a2.2)).trans a1.2⟩
  have h2 : (bigSep Finset.univ fun b : Dev nD => (hp c (512 * b.val) 512 fullShare f : sProp 𝕄))
      = iprop(hp c (512 * c.val) 512 fullShare f ∗ hp c (512 * (lft c).val) 512 fullShare f
        ∗ hp c (512 * (rgt c).val) 512 fullShare f ∗ hp c (512 * (opp c).val) 512 fullShare f) :=
    bigSep_univ_eq_bigSepL [c, lft c, rgt c, opp c] (by clear h1; revert c; decide) (by clear h1; revert c; decide) _
  rw [← h2]; exact h1

omit [FloatOps F] in
theorem hp_half (c : Dev nD) (a : ℕ) (f : FVec F S2048x2048 .bf16) :
    (hp c a 512 fullShare f : sProp 𝕄) ⊢ iprop(hp c a 256 fullShare f ∗ hp c (a + 256) 256 fullShare f) := (hp_append c a 256 256 fullShare f).1

omit [FloatOps F] in
/-- At the start a device keeps its own block and parts with the rest: what its left neighbour is to fill, and what its
    right neighbour is. -/
theorem scratch_deal (c : Dev nD) (f : FVec F S2048x2048 .bf16) :
    (hp c 0 2048 fullShare f : sProp 𝕄)
      ⊢ iprop((∃ g, hp c (512 * c.val) 256 fullShare g) ∗ (∃ g, hp c (512 * c.val + 256) 256 fullShare g) ∗ barR (lft c) ∗ barL (rgt c)) := by
  unfold barR barL
  rw [rgt_lft, lft_rgt, lft_lft, rgt_rgt]
  iintro H
  ihave H := (hp_blocks c f).1 $$ H
  icases H with ⟨H0, H1, H2, H3⟩
  ihave H0 := (hp_half c _ f) $$ H0; icases H0 with ⟨H0u, H0d⟩
  ihave H1 := (hp_half c _ f) $$ H1; icases H1 with ⟨H1u, H1d⟩
  ihave H2 := (hp_half c _ f) $$ H2; icases H2 with ⟨H2u, H2d⟩
  ihave H3 := (hp_half c _ f) $$ H3; icases H3 with ⟨H3u, H3d⟩
  isplitl [H0u]; · iexists f; iexact H0u
  isplitl [H0d]; · iexists f; iexact H0d
  isplitl [H1u H1d H3u]
  · isplitl [H1u]; · iexists f; iexact H1u
    isplitl [H1d]; · iexists f; iexact H1d
    iexists f; iexact H3u
  · isplitl [H2u]; · iexists f; iexact H2u
    isplitl [H2d]; · iexists f; iexact H2d
    iexists f; iexact H3d

/-! ## The cells, one by one -/

omit [FloatOps F] in
theorem each_cell (c : Dev nD) (Φ : GSem nD τ sig → sProp 𝕄) :
    (bigSep Finset.univ fun k : Fin 13 => Φ (kcell (c, k)))
      = iprop(Φ (bcell c) ∗ Φ (dcell c 3) ∗ Φ (dcell c 4) ∗ Φ (dcell c 5) ∗ Φ (dcell c 6) ∗ Φ (dcell c 7) ∗ Φ (dcell c 8)
        ∗ Φ (dcell c 9) ∗ Φ (dcell c 10) ∗ Φ (dcell c 11) ∗ Φ (dcell c 12) ∗ Φ (dcell c 13) ∗ Φ (dcell c 14)) :=
  bigSep_univ_eq_bigSepL [0, 1, 2, 3, 4, 5, 6, 7, 8, 9, 10, 11, 12] (by decide) (by decide) _

/-- The tokens of the duties device `c` pays: a signal to either neighbour, its six departures, and the six arrivals it
    causes. -/
def payToks (c : Dev nD) : sProp 𝕄 :=
  iprop((dutyTok ER (bcell (lft c)) 0 true ∗ dutyTok ER (bcell (rgt c)) 0 false)
    ∗ (dutyTok ER (dcell c 3) 0 false ∗ dutyTok ER (dcell c 4) 0 false ∗ dutyTok ER (dcell c 5) 0 false
      ∗ dutyTok ER (dcell c 6) 0 false ∗ dutyTok ER (dcell c 7) 0 false ∗ dutyTok ER (dcell c 8) 0 false)
    ∗ (dutyTok ER (dcell (rgt c) 9) 0 false ∗ dutyTok ER (dcell (rgt c) 10) 0 false ∗ dutyTok ER (dcell (rgt c) 11) 0 false
      ∗ dutyTok ER (dcell (lft c) 12) 0 false ∗ dutyTok ER (dcell (lft c) 13) 0 false ∗ dutyTok ER (dcell (lft c) 14) 0 false))

/-- What is device `c`'s alone: where it stands at each of its cells, and its tokens. -/
def linear (c : Dev nD) : sProp 𝕄 := iprop((bigSep Finset.univ fun k : Fin 13 => atPos ER (kcell (c, k)) 0 ∅ 0) ∗ payToks c)

/-- The credits device `c` waits with: two signals, six arrivals. -/
def credits (c : Dev nD) : sProp 𝕄 :=
  iprop(cred (tallyAt (bcell c) () 2) ∗ cred (cr c 9) ∗ cred (cr c 10) ∗ cred (cr c 11) ∗ cred (cr c 12) ∗ cred (cr c 13) ∗ cred (cr c 14))

def start (c : Dev nD) : sProp 𝕄 := iprop((∃ K, records m K ∗ linear c) ∗ credits c ∗ levAts L lv)

/-- The scratch buffer, whole. -/
abbrev scr (c : Dev nD) (f : FVec F S2048x2048 .bf16) : sProp 𝕄 := ((c : Thread nD τ).loc cc0_scratch0) ↦{fullShare} (f : Buf (Elt F) ((c : Thread nD τ).loc cc0_scratch0))

def Φ₀ (c : Dev nD) : sProp 𝕄 := iprop(start m c ∗ ∃ f, scr c f)
/-- After the body: all rows gathered, every semaphore at zero. -/
def Φ₁ (c : Dev nD) : sProp 𝕄 := iprop(scr c (gath m) ∗ bigSep Finset.univ fun k : Fin 13 => semVal (kcell (c, k)) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => win m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

omit [FloatOps F] in
/-- A cell whose round is over closes: its counter is the device's again, at zero. -/
theorem close_dma (c : Dev nD) (s : Fin 15) (hs : 3 ≤ s.val) :
    iprop(records m K ∗ atPos ER (dcell c s) 1 ∅ 0) ⊢ (|={Set.univ}=> semVal (dcell c s) 0 : sProp 𝕄) := by
  iintro ⟨#HR, Ha⟩
  imod (Rounds.cell_close ER (sched m) (Set.mem_univ (K (c, cix s))) (fun h => h) (R := 0 + 1) (duties_later m (dcell c s))) $$ [Ha] with Hz
  · isplitr; · iapply (inv_dma m K c s hs); iexact HR
    iexact Ha
  imodintro; iexact Hz
omit [FloatOps F] in
@[inherit_doc close_dma] theorem close_bar (c : Dev nD) :
    iprop(records m K ∗ atPos ER (bcell c) 1 ∅ 0) ⊢ (|={Set.univ}=> semVal (bcell c) 0 : sProp 𝕄) := by
  iintro ⟨#HR, Ha⟩
  imod (Rounds.cell_close ER (sched m) (Set.mem_univ (K (c, 0))) (fun h => h) (R := 0 + 1) (duties_later m (bcell c))) $$ [Ha] with Hz
  · isplitr; · iapply (inv_bar m K c); iexact HR
    iexact Ha
  imodintro; iexact Hz

omit [FloatOps F] in
/-- Two mask-preserving updates run side by side. -/
theorem both {A B A' B' : sProp 𝕄} (h : A ⊢ |={Set.univ}=> A') (h' : B ⊢ |={Set.univ}=> B') : iprop(A ∗ B) ⊢ |={Set.univ}=> iprop(A' ∗ B') := by
  iintro ⟨HA, HB⟩
  imod h $$ HA with HA
  imod h' $$ HB with HB
  imodintro
  isplitl [HA] <;> iassumption

/-- All thirteen cells close. -/
theorem close_all (c : Dev nD) :
    iprop(records m K ∗ bigSep Finset.univ fun k : Fin 13 => atPos ER (kcell (c, k)) 1 ∅ 0)
      ⊢ (|={Set.univ}=> bigSep Finset.univ fun k : Fin 13 => semVal (kcell (c, k)) 0 : sProp 𝕄) := by
  refine (sep_mono_left (BI.bigSep_of_persistent (Finset.univ : Finset (Fin 13)) (records m K))).trans ?_
  rw [← bigSep_sep']
  refine (bigSep_mono fun k _ => ?_).trans (bigSep_fupd _ _)
  by_cases hk : k = 0
  · subst hk; exact close_bar m K c
  · have h1 : 1 ≤ k.val := by rcases Nat.eq_zero_or_pos k.val with h | h; · exact absurd (Fin.ext h) hk
                              · exact h
    have hlt := k.isLt
    have h := close_dma m K c ⟨k.val + 2, by omega⟩ (by show 3 ≤ k.val + 2; omega)
    have e : kcell (c, k) = dcell c ⟨k.val + 2, by omega⟩ := by
      unfold kcell csem; rw [if_neg (by show ¬ k.val = 0; omega)]
    rw [e]; exact h

theorem all_rows (c : Dev nD) : ∀ r : ℕ, r < 2048 →
    ((((False ∨ inBlock c r) ∨ inBlock (lft c) r) ∨ inBlock (rgt c) r) ∨ inHalf (512 * (opp c).val) r) ∨ inHalf (512 * (opp c).val + 256) r := by
  intro r hr
  unfold inBlock inHalf
  have hc : c.val < 4 := c.isLt
  have h1 : (lft c).val = (c.val + 3) % 4 := rfl
  have h2 : (rgt c).val = (c.val + 1) % 4 := rfl
  have h3 : (opp c).val = (c.val + 2) % 4 := rfl
  rw [h1, h2, h3]
  omega

/-- Every row computed, the result buffer holds the result. -/
theorem oo_done (c : Dev nD) (P : ℕ → Prop) (hP : ∀ r, r < 2048 → P r) :
    (oo m c P : sProp 𝕄) ⊢ (((c : Thread nD τ).loc cc0_stg2_0) ↦{fullShare} (outAt m c : Buf (Elt F) ((c : Thread nD τ).loc cc0_stg2_0))) := by
  unfold oo
  iintro ⟨%f, %hf, H⟩
  rw [← show f = outAt m c from funext fun i => hf i (hP _ (i 0).isLt)]
  iexact H

/-- A staging buffer, held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The stages hold the device's rows of `x` and columns of the weights, each whole. -/
theorem before_x (c : Dev nD) (d) : (dats m ρ 0 c).before (0 : Fin 3) t₀ d = xin m c := by
  unfold Dat.before; rw [if_pos (fetch0_0 t₀)]
  funext i
  exact congrArg (xin m c) (ix_ext (by show 0 * 512 + 1 * (i 0).val = (i 0).val; omega) (by show 0 * 2048 + 1 * (i 1).val = (i 1).val; omega))
@[inherit_doc before_x] theorem before_w (c : Dev nD) (d) : (dats m ρ 0 c).before (1 : Fin 3) t₀ d = win m c := by
  unfold Dat.before; rw [if_pos (fetch0_1 t₀)]
  funext i
  exact congrArg (win m c) (ix_ext (by show 0 * 2048 + 1 * (i 0).val = (i 0).val; omega) (by show 0 * 512 + 1 * (i 1).val = (i 1).val; omega))

def bodyPre (c : Dev nD) : sProp 𝕄 :=
  iprop(((records m K ∗ linear c) ∗ credits c ∗ levAts L lv ∗ ∃ f, scr c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m c ∗ (dats m ρ 0 c).owesAt () t₀.succ ∗ stg c cc0_stg0_0 (xin m c) ∗ stg c cc0_stg1_0 (win m c) ∗ stg c cc0_stg2_0 (outAt m c))

omit [FloatOps F] in
/-- The pieces of the gathered array, as they are held after the last wait, make it whole. -/
theorem scratch_gather (c : Dev nD) :
    iprop((hp c (512 * c.val) 256 fullShare.right (gath m) ∗ hp c (512 * c.val) 256 fullShare.left.left (gath m) ∗ hp c (512 * c.val) 256 fullShare.left.right (gath m))
        ∗ (hp c (512 * c.val + 256) 256 fullShare.right (gath m) ∗ hp c (512 * c.val + 256) 256 fullShare.left.left (gath m) ∗ hp c (512 * c.val + 256) 256 fullShare.left.right (gath m))
        ∗ (hp c (512 * (lft c).val) 256 fullShare.right (gath m) ∗ hp c (512 * (lft c).val) 256 fullShare.left (gath m) ∗ hp c (512 * (lft c).val + 256) 256 fullShare (gath m))
        ∗ (hp c (512 * (rgt c).val) 256 fullShare (gath m) ∗ hp c (512 * (rgt c).val + 256) 256 fullShare.right (gath m) ∗ hp c (512 * (rgt c).val + 256) 256 fullShare.left (gath m))
        ∗ (hp c (512 * (opp c).val) 256 fullShare (gath m) ∗ hp c (512 * (opp c).val + 256) 256 fullShare (gath m)))
      ⊢ (scr c (gath m) : sProp 𝕄) := by
  have hq (a : ℕ) : iprop(hp c a 256 fullShare.right (gath m) ∗ hp c a 256 fullShare.left.left (gath m) ∗ hp c a 256 fullShare.left.right (gath m)) ⊢ (hp c a 256 fullShare (gath m) : sProp 𝕄) := by
    iintro ⟨HR, HA, HB⟩
    ihave HL := (hp_share c a 256 fullShare.left (gath m)).2 $$ [HA HB]
    · isplitl [HA] <;> iassumption
    iapply (hp_share c a 256 fullShare (gath m)).2
    isplitl [HL] <;> iassumption
  have hh (a : ℕ) : iprop(hp c a 256 fullShare.right (gath m) ∗ hp c a 256 fullShare.left (gath m)) ⊢ (hp c a 256 fullShare (gath m) : sProp 𝕄) := by
    iintro ⟨HR, HL⟩
    iapply (hp_share c a 256 fullShare (gath m)).2
    isplitl [HL] <;> iassumption
  have hj (a : ℕ) : iprop(hp c a 256 fullShare (gath m) ∗ hp c (a + 256) 256 fullShare (gath m)) ⊢ (hp c a 512 fullShare (gath m) : sProp 𝕄) := (hp_append c a 256 256 fullShare (gath m)).2
  iintro ⟨H0, H1, ⟨H2, H3, H4⟩, ⟨H5, H6, H7⟩, H8⟩
  ihave H0 := (hq _) $$ H0
  ihave H1 := (hq _) $$ H1
  ihave H2 := (hh (512 * (lft c).val)) $$ [H2 H3]
  · isplitl [H2] <;> iassumption
  ihave H6 := (hh (512 * (rgt c).val + 256)) $$ [H6 H7]
  · isplitl [H6] <;> iassumption
  ihave G0 := (hj (512 * c.val)) $$ [H0 H1]
  · isplitl [H0] <;> iassumption
  ihave G1 := (hj (512 * (lft c).val)) $$ [H2 H4]
  · isplitl [H2] <;> iassumption
  ihave G2 := (hj (512 * (rgt c).val)) $$ [H5 H6]
  · isplitl [H5] <;> iassumption
  ihave G3 := (hj (512 * (opp c).val)) $$ H8
  iapply (Entails.of_eq (hp_all c (gath m)))
  iapply (hp_blocks c (gath m)).2
  isplitl [G0]; · iexact G0
  isplitl [G1]; · iexact G1
  isplitl [G2] <;> iassumption

set_option maxHeartbeats 2000000 in
/-- The body runs from what it is given to what it promises. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body xM (Memref.isWhole_whole _) wM (Memref.isWhole_whole _) oM (Memref.isWhole_whole _) gM (Memref.isWhole_whole _) cc0_scratch1 cc0_scratch2) Kt := by
  simp only [cc0_body_eq_skeleton]; unfold cc0_body_skel
  rw [wp_bind]
  simp only [k0_part7_eq_skeleton]; unfold k0_part7_skel
  rw [wp_bind]
  simp only [k0_part1_eq_skeleton]; unfold k0_part1_skel
  simp only [Prog.lift, Prog.bind_op, Prog.bind_ret, Prog.pure_eq_ret, wp_deviceId]
  unfold bodyPre linear payToks credits
  rw [each_cell c (fun g => (atPos ER g 0 ∅ 0 : sProp 𝕄))]
  iintro ⟨⟨⟨⟨#HR, ⟨Ha0, Ha3, Ha4, Ha5, Ha6, Ha7, Ha8, Ha9, Ha10, Ha11, Ha12, Ha13, Ha14⟩, ⟨HtL, HtR⟩, ⟨Ht3, Ht4, Ht5, Ht6, Ht7, Ht8⟩, ⟨Ht9, Ht10, Ht11, Ht12, Ht13, Ht14⟩⟩,
    ⟨Hcb, Hc9, Hc10, Hc11, Hc12, Hc13, Hc14⟩, #Hlev, ⟨%fs, Hs⟩⟩, Ho, ⟨%d0, %g0, %hg0, Hx⟩, ⟨%d1, %g1, %hg1, Hw⟩, ⟨%d2, %g2, %hg2, Hout⟩⟩, Hk⟩
  obtain rfl : g0 = xin m c := hg0.trans (before_x m ρ c d0)
  obtain rfl : g1 = win m c := hg1.trans (before_w m ρ c d1)
  unfold Dat.owesAt Pipeline.owesWithin
  icases Ho with ⟨%W, %hW, HO⟩
  rw [show (dats m ρ 0 c).owed t₀.castSucc = O₀ c from rfl]
  ihave HO := (show owes (c : Thread nD τ) (O₀ c) W ⊢ (ow c (O₀ c) : sProp 𝕄) from by unfold ow; iintro H; iexists W; iexact H) $$ HO
  ihave Hs := (Entails.of_eq (hp_all c fs).symm) $$ Hs
  ihave Hs := (scratch_deal c fs) $$ Hs
  icases Hs with ⟨Hu, Hd, HpR, HpL⟩
  rw [wp_ret]; imodintro
  rw [wp_bind]
  iapply (part2 m K c) $$ [HO HtL HtR Hcb Ha0 HpR HpL Hu Hd Hx]
  · isplitr; · iexact HR
    isplitr; · iexact Hlev
    isplitl [HO]; · iexact HO
    isplitl [HtL]; · iexact HtL
    isplitl [HtR]; · iexact HtR
    isplitl [Hcb]; · iexact Hcb
    isplitl [Ha0]; · iexact Ha0
    isplitl [HpR]; · iexact HpR
    isplitl [HpL]; · iexact HpL
    isplitl [Hu]; · iexact Hu
    isplitl [Hd]; · iexact Hd
    unfold xs; iexact Hx
  unfold barL barR
  iintro ⟨HO, Ha0, ⟨HLu, HLd, HLb⟩, ⟨HRu, HRd, HRt⟩, Hu, Hd, Hx⟩
  rw [wp_bind]
  iapply (part3 m K c) $$ [HO Hu Hd HRu HRd HLu HLd Ht3 Ht4 Ht6 Ht7 Ht9 Ht10 Ht12 Ht13 Hw]
  · isplitr; · iexact HR
    isplitl [HO]; · iexact HO
    isplitl [Hu Hd]; · isplitl [Hu] <;> iassumption
    isplitl [HRu HRd HLu HLd]
    · isplitl [HRu]; · iexact HRu
      isplitl [HRd]; · iexact HRd
      isplitl [HLu]; · iexact HLu
      iexact HLd
    isplitl [Ht3 Ht4 Ht6 Ht7]
    · isplitl [Ht3]; · iexact Ht3
      isplitl [Ht4]; · iexact Ht4
      isplitl [Ht6]; · iexact Ht6
      iexact Ht7
    isplitl [Ht9 Ht10 Ht12 Ht13]
    · isplitl [Ht9]; · iexact Ht9
      isplitl [Ht10]; · iexact Ht10
      isplitl [Ht12]; · iexact Ht12
      iexact Ht13
    unfold ws; iexact Hw
  iintro ⟨HO, ⟨Hu, Hd⟩, ⟨Hc3, Hc4, Hc6, Hc7⟩, Hw⟩
  dsimp only
  rw [wp_bind]
  iapply (part4 m K c _ _ _ (fun _ => False)) $$ [HO Hu Hd Hout Hc9 Ha9 HRt Ht5 Ht11 Hc12 Ha12]
  · isplitr; · iexact HR
    isplitr; · iexact Hlev
    isplitl [HO]; · iexact HO
    isplitl [Hu Hd]; · isplitl [Hu] <;> iassumption
    isplitl [Hout]
    · unfold oo; iexists g2; isplitr; · (ipureintro; exact fun _ h => h.elim)
      iexact Hout
    isplitl [Hc9 Ha9]; · isplitl [Hc9] <;> iassumption
    isplitl [HRt Ht5 Ht11]
    · isplitl [HRt]; · iexact HRt
      isplitl [Ht5] <;> iassumption
    isplitl [Hc12] <;> iassumption
  iintro ⟨HO, ⟨Hu, Hd⟩, Hout, ⟨Ha9, HlR⟩, Hc5, ⟨Ha12, Hb⟩⟩
  rw [wp_bind]
  iapply (part5 m K c) $$ [HO Hb HLb Ht8 Ht14 Hc10 Ha10 HlR Hout Hc13 Ha13]
  · isplitr; · iexact HR
    isplitr; · iexact Hlev
    isplitl [HO]; · iexact HO
    isplitl [Hb HLb Ht8 Ht14]
    · isplitl [Hb]; · iexact Hb
      isplitl [HLb]; · iexact HLb
      isplitl [Ht8] <;> iassumption
    isplitl [Hc10 Ha10]; · isplitl [Hc10] <;> iassumption
    isplitl [HlR]; · iexact HlR
    isplitl [Hout]; · iexact Hout
    isplitl [Hc13] <;> iassumption
  iintro ⟨HO, Hc8, ⟨Ha10, Ha13⟩, ⟨HlR, Hld⟩, ⟨Hru, HbR⟩, Hout⟩
  dsimp only
  rw [wp_bind]
  iapply (part6 m K c) $$ [HO Hout Hc11 Ha11 Hc14 Ha14]
  · isplitr; · iexact HR
    isplitr; · iexact Hlev
    isplitl [HO]; · iexact HO
    isplitl [Hout]; · iexact Hout
    isplitl [Hc11 Ha11]; · isplitl [Hc11] <;> iassumption
    isplitl [Hc14] <;> iassumption
  iintro ⟨HO, Hout, ⟨Ha11, Hou⟩, ⟨Ha14, Hod⟩⟩
  iapply (wait_rows m K c 3 (by decide) _ snd0 (k0_off3_inb c) (k0_off3_inb c) (above_zero 0) (by decide : (0 : ℕ) ≤ 0)) $$ [Hc3 HO Ha3]
  · isplitr; · iexact HR
    isplitr; · iexact Hlev
    isplitl [Hc3]; · iexact Hc3
    isplitl [HO] <;> iassumption
  iintro ⟨HO, Ha3, Hs3⟩
  iapply (wait_rows m K c 4 (by decide) _ snd1 (k0_off4_inb c) (k0_off4_inb c) (above_zero 0) (by decide : (0 : ℕ) ≤ 0)) $$ [Hc4 HO Ha4]
  · isplitr; · iexact HR
    isplitr; · iexact Hlev
    isplitl [Hc4]; · iexact Hc4
    isplitl [HO] <;> iassumption
  iintro ⟨HO, Ha4, Hs4⟩
  iapply (wait_rows m K c 5 (by decide) _ snd2 (k0_off7_inb c) (k0_off7_inb c) (above_zero 0) (by decide : (0 : ℕ) ≤ 0)) $$ [Hc5 HO Ha5]
  · isplitr; · iexact HR
    isplitr; · iexact Hlev
    isplitl [Hc5]; · iexact Hc5
    isplitl [HO] <;> iassumption
  iintro ⟨HO, Ha5, Hs5⟩
  iapply (wait_rows m K c 6 (by decide) _ snd3 (k0_off4_inb c) (k0_off4_inb c) (above_zero 0) (by decide : (0 : ℕ) ≤ 0)) $$ [Hc6 HO Ha6]
  · isplitr; · iexact HR
    isplitr; · iexact Hlev
    isplitl [Hc6]; · iexact Hc6
    isplitl [HO] <;> iassumption
  iintro ⟨HO, Ha6, Hs6⟩
  iapply (wait_rows m K c 7 (by decide) _ snd4 (k0_off3_inb c) (k0_off3_inb c) (above_zero 0) (by decide : (0 : ℕ) ≤ 0)) $$ [Hc7 HO Ha7]
  · isplitr; · iexact HR
    isplitr; · iexact Hlev
    isplitl [Hc7]; · iexact Hc7
    isplitl [HO] <;> iassumption
  iintro ⟨HO, Ha7, Hs7⟩
  rw [wp_ret]; imodintro
  iapply (wait_rows m K c 8 (by decide) _ snd5 (k0_off8_inb c) (k0_off8_inb c) (above_zero 0) (by decide : (0 : ℕ) ≤ 0)) $$ [Hc8 HO Ha8]
  · isplitr; · iexact HR
    isplitr; · iexact Hlev
    isplitl [Hc8]; · iexact Hc8
    isplitl [HO] <;> iassumption
  iintro ⟨HO, Ha8, Hs8⟩
  imod (close_all m K c) $$ [Ha0 Ha3 Ha4 Ha5 Ha6 Ha7 Ha8 Ha9 Ha10 Ha11 Ha12 Ha13 Ha14] with Hz
  · isplitr; · iexact HR
    rw [each_cell c (fun g => (atPos ER g 1 ∅ 0 : sProp 𝕄))]
    isplitl [Ha0]; · iexact Ha0
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    iexact Ha14
  rw [wp_ret]; imodintro
  iapply Hk
  unfold bodyPost Φ₁ Dat.owesAt Pipeline.owesWithin ow
  rw [show (dats m ρ 0 c).owed t₀.succ = 0 from rfl]
  icases HO with ⟨%W', HO⟩
  isplitr [HO Hx Hw Hout]
  · isplitr [Hz]
    · iapply (scratch_gather m c)
      isplitl [Hu Hs3 Hs7]
      · isplitl [Hu]; · iexact Hu
        isplitl [Hs3]; · iexact Hs3
        iexact Hs7
      isplitl [Hd Hs4 Hs6]
      · isplitl [Hd]; · iexact Hd
        isplitl [Hs4]; · iexact Hs4
        iexact Hs6
      isplitl [HlR Hs5 Hld]
      · isplitl [HlR]; · iexact HlR
        isplitl [Hs5]; · iexact Hs5
        iexact Hld
      isplitl [Hru HbR Hs8]
      · isplitl [Hru]; · iexact Hru
        isplitl [HbR]; · iexact HbR
        iexact Hs8
      isplitl [Hou]; · iexact Hou
      iexact Hod
    · iexact Hz
  isplitl [HO]
  · iexists W'
    isplitr; · ipureintro; exact fun _ _ => Or.inl trivial
    iexact HO
  isplitl [Hx]
  · iexists _; isplitr; · (ipureintro; rfl)
    unfold xs; iexact Hx
  isplitl [Hw]
  · iexists _; isplitr; · (ipureintro; rfl)
    unfold ws; iexact Hw
  iexists _; isplitr; · (ipureintro; rfl)
  iapply (oo_done m c _ (all_rows c)); iexact Hout

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- The obligation the pipeline sets the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_stg]
  show iprop(Φ₀ m c ∗ (dats m ρ 0 c).owesAt () t₀.castSucc
      ∗ (∃ d, stg c cc0_stg0_0 ((dats m ρ 0 c).before (0 : Fin 3) t₀ d))
      ∗ (∃ d, stg c cc0_stg1_0 ((dats m ρ 0 c).before (1 : Fin 3) t₀ d))
      ∗ (∃ d, stg c cc0_stg2_0 ((dats m ρ 0 c).before (2 : Fin 3) t₀ d)))
    ⊢ wp frame (wpE (defs₀ (F := F)) 𝒱₀ (c : Thread nD τ) none) Set.univ
      (cc0_body xM (Memref.isWhole_whole _) wM (Memref.isWhole_whole _) oM (Memref.isWhole_whole _) gM (Memref.isWhole_whole _) cc0_scratch1 cc0_scratch2) (fun _ => bodyPost m ρ c)
  unfold Φ₀ start
  iintro ⟨⟨⟨⟨%K, Hg⟩, Hc, Hl⟩, Hs⟩, Ho, Hx, Hw, Hout⟩
  iapply (sound_body m ρ K c fun _ => bodyPost m ρ c)
  unfold bodyPre
  isplitr []
  · isplitl [Hg Hc Hl Hs]
    · isplitl [Hg]; · iexact Hg
      isplitl [Hc]; · iexact Hc
      isplitl [Hl] <;> iassumption
    isplitl [Ho]; · iexact Ho
    isplitl [Hx]; · iexact Hx
    isplitl [Hw] <;> iassumption
  · iintro H; iexact H

end Cert.KernelIdeal.Ring

end
-- ==== Proof.KernelIdealRun.lean ====
/-
The launch of the four devices and the run of the whole program.

The launch deals every device its semaphores' invariants, the tokens of the payments it is to make, and the credits it
waits with; the pipeline's launch theorem then turns the body's proof into a run of the program: it ends, each device's
result holds `outAt`, both arguments are unchanged, and every semaphore counter is back at zero.
-/
module

public import proofs.«01_k».proof.Proof.KernelIdealBody
public import Idealize.ShloMosaic.Lib.Quiescent
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : (c : Dev nD) → PrngReg)

/-! ## The cells and the tokens minted for them -/

theorem own_sems : Pipeline.OwnSemFacts cfg0.spec osem := by decide

theorem csem_injective : Function.Injective csem := by decide

theorem kcell_injective : Function.Injective (kcell : Dev nD × Fin 13 → GSem nD τ sig) := by
  rintro ⟨c, k⟩ ⟨d, l⟩ h
  obtain rfl : c = d := congrArg (fun g : GSem nD τ sig => g.1.1) h
  obtain rfl : k = l := csem_injective (congrArg Prod.snd h)
  rfl
def allCells : Finset (GSem nD τ sig) := Finset.univ.map ⟨kcell, kcell_injective⟩

/-- A token for the payment `false` of each of a device's cells, and one for its barrier's payment `true`. -/
def tokOf : Dev nD × Option (Fin 13) → GSem nD τ sig × ℕ × Bool
  | (c, none) => (bcell c, 0, true)
  | (c, some k) => (kcell (c, k), 0, false)

theorem tokOf_injective : Function.Injective tokOf := by
  rintro ⟨c, _ | k⟩ ⟨d, _ | l⟩ h
  · obtain rfl : c = d := congrArg (fun x : GSem nD τ sig × ℕ × Bool => x.1.1.1) h
    rfl
  · exact absurd (congrArg (fun x : GSem nD τ sig × ℕ × Bool => x.2.2) h) (by show ¬ true = false; decide)
  · exact absurd (congrArg (fun x : GSem nD τ sig × ℕ × Bool => x.2.2) h) (by show ¬ false = true; decide)
  · have := kcell_injective (congrArg (fun x : GSem nD τ sig × ℕ × Bool => x.1) h : kcell (c, k) = kcell (d, l))
    rw [Prod.mk.injEq] at this
    obtain ⟨rfl, rfl⟩ := this
    rfl
def allToks : Finset (GSem nD τ sig × ℕ × Bool) := Finset.univ.map ⟨tokOf, tokOf_injective⟩

/-- The ghost state at launch. -/
def u₀ : UU := (initOf (Pipeline.cells cfgs cellOf_inj) (Pipeline.launchToks cfgs cellOf_inj), initOf allCells allToks)

/-- The tokens of device `c`'s own cells. -/
def toks (c : Dev nD) : sProp 𝕄 :=
  iprop(dutyTok ER (bcell c) 0 true ∗ bigSep Finset.univ fun k : Fin 13 => dutyTok ER (kcell (c, k)) 0 false)

/-- What the launch deals device `c`, before its cells are allocated. -/
def G (c : Dev nD) : sProp 𝕄 :=
  iprop((bigSep Finset.univ fun k : Fin 13 => roundState ER (sched m) (kcell (c, k)) 0)
    ∗ (bigSep Finset.univ fun k : Fin 13 => iprop(atPos ER (kcell (c, k)) 0 ∅ 0 ∗ reached ER (kcell (c, k)) 0)) ∗ toks c)

/-- And after. -/
def G' (c : Dev nD) : sProp 𝕄 := iprop(∃ K, records m K ∗ linear c)

omit [FloatOps F] in
theorem bigSep_opt (Φ : Option (Fin 13) → sProp 𝕄) :
    bigSep Finset.univ Φ = iprop(Φ none ∗ bigSep Finset.univ fun k : Fin 13 => Φ (some k)) := by
  rw [bigSep_univ_at Φ none, show (Finset.univ.erase (none : Option (Fin 13))) = Finset.univ.map Function.Embedding.some by decide, bigSep_map]; rfl

omit [FloatOps F] in
/-- The launch element becomes every device's share of it. -/
theorem fund_all : BI.own (ER (initOf allCells allToks)) ⊢ (|==> bigSep Finset.univ (G m) : sProp 𝕄) := by
  have hC (Φ : GSem nD τ sig → sProp 𝕄) :
      bigSep allCells Φ = bigSep Finset.univ fun c : Dev nD => bigSep Finset.univ fun k : Fin 13 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_opt]; rfl
  iintro H
  imod (Rounds.fund ER (sched m) allCells allToks) $$ H with ⟨Hs, Hr, Ha, Ht⟩
  imodintro
  ihave Hs := (Entails.of_eq (hC fun g => roundState ER (sched m) g 0)) $$ Hs
  ihave Ha := (Entails.of_eq (hC fun g => atPos ER g 0 ∅ 0)) $$ Ha
  ihave Hr := (Entails.of_eq (hC fun g => reached ER g 0)) $$ Hr
  ihave Ht := (Entails.of_eq hT) $$ Ht
  unfold G; simp only [bigSep_sep']
  isplitl [Hs]; · iexact Hs
  isplitl [Ha Hr]
  · isplitl [Ha] <;> iassumption
  iexact Ht

/-! ## The semaphores -/

omit [FloatOps F] in
theorem all_sems (c : Dev nD) :
    (bigSep Finset.univ fun k : Fin 13 => semVal (kcell (c, k)) 0 : sProp 𝕄)
      = iprop(unscopedSems0 c ∗ Pipeline.ownSems0 (Ix := Unit) (Name := ℕ) (U := UU) (Lvl := ℕ) (Val := Elt F) (τ := τ) osem c) := by
  rw [each_cell c (fun g => (semVal g 0 : sProp 𝕄)), Pipeline.ownSems0_eq_of_list c osem [0, 1, 2, 3, 4, 5, 6, 7, 8, 9, 10, 11] (by decide) (by decide)]
  unfold unscopedSems0
  rw [bigSep_eq_bigSepL_of_eq [SemLoc.reg barS] (by decide) (by decide)]
  rfl

omit [FloatOps F] in
/-- One device's cells, allocated. -/
theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  have h : iprop((bigSep Finset.univ fun k : Fin 13 => semVal (kcell (c, k)) 0) ∗ bigSep Finset.univ fun k : Fin 13 => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Ho, Hu, Hs, Ha, Ht⟩
  imod h $$ [Ho Hu Hs] with Hi
  · isplitl [Ho Hu]
    · rw [all_sems]
      isplitl [Hu] <;> iassumption
    iexact Hs
  imodintro
  isplitl [Hi]; · iexact Hi
  isplitl [Ha] <;> iassumption

/-! ## Dealing the tokens round the ring -/

omit [FloatOps F] in
/-- Every device's tokens, one per cell, are the tokens every device pays with: those of a device's arrivals and of its
    barrier go to the neighbour who causes them. -/
theorem toks_dealt : (bigSep Finset.univ fun c : Dev nD => (toks c : sProp 𝕄)) ⊢ bigSep Finset.univ fun c : Dev nD => payToks c := by
  unfold toks payToks
  simp only [fun c : Dev nD => each_cell (F := F) c (fun g => (dutyTok ER g 0 false : sProp 𝕄)), bigSep_sep']
  rw [bigSep_univ_equiv around.symm (fun c : Dev nD => (dutyTok ER (bcell c) 0 true : sProp 𝕄)),
    bigSep_univ_equiv around (fun c : Dev nD => (dutyTok ER (bcell c) 0 false : sProp 𝕄)),
    bigSep_univ_equiv around (fun c : Dev nD => (dutyTok ER (dcell c 9) 0 false : sProp 𝕄)),
    bigSep_univ_equiv around (fun c : Dev nD => (dutyTok ER (dcell c 10) 0 false : sProp 𝕄)),
    bigSep_univ_equiv around (fun c : Dev nD => (dutyTok ER (dcell c 11) 0 false : sProp 𝕄)),
    bigSep_univ_equiv around.symm (fun c : Dev nD => (dutyTok ER (dcell c 12) 0 false : sProp 𝕄)),
    bigSep_univ_equiv around.symm (fun c : Dev nD => (dutyTok ER (dcell c 13) 0 false : sProp 𝕄)),
    bigSep_univ_equiv around.symm (fun c : Dev nD => (dutyTok ER (dcell c 14) 0 false : sProp 𝕄))]
  iintro ⟨Hb, Hf, H3, H4, H5, H6, H7, H8, H9, H10, H11, H12, H13, H14⟩
  isplitl [Hb Hf]
  · isplitl [Hb]; · iexact Hb
    iexact Hf
  isplitl [H3 H4 H5 H6 H7 H8]
  · isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  iexact H14

omit [FloatOps F] in
theorem deal :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun x : Dev nD × Fin 13 => iprop(∃ κ : ℕ, cellInv ER (sched m) κ (kcell x))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun x : Dev nD × Fin 13 => (reached ER (kcell x) 0 : sProp 𝕄))]
  iintro ⟨Hi, ⟨Ha, #Hr⟩, Ht⟩
  ihave Hi := (BI.bigSep_exists_pi Finset.univ (fun (x : Dev nD × Fin 13) (κ : ℕ) => (cellInv ER (sched m) κ (kcell x) : sProp 𝕄))) $$ Hi
  icases Hi with ⟨%K, #Hi⟩
  ihave Ht := (toks_dealt (F := F)) $$ Ht
  have hk : iprop(records m K ∗ bigSep Finset.univ fun c : Dev nD => (linear c : sProp 𝕄)) ⊢ bigSep Finset.univ (G' m) := by
    refine (sep_mono_left (BI.bigSep_of_persistent (Finset.univ : Finset (Dev nD)) (records m K))).trans ?_
    rw [← bigSep_sep']
    refine bigSep_mono fun c _ => show iprop(records m K ∗ linear c) ⊢ iprop(∃ K, records m K ∗ linear c) from ?_
    iintro H; iexists K; iexact H
  iapply hk
  isplitr
  · unfold records; isplitr; · iexact Hi
    iexact Hr
  · unfold linear
    rw [bigSep_sep']
    isplitl [Ha] <;> iassumption

omit [FloatOps F] in
/-- All devices' cells allocated at once, and everything dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (deal m))

/-! ## The credits -/

omit [FloatOps F] in
/-- What the neighbours owe device `c` at launch is what it waits for: two signals and six arrivals. -/
theorem creds (c : Dev nD) : (Pipeline.launchCred O₀ c : sProp 𝕄) ⊢ credits c := by
  have hl (sm : SemLoc sig) (n : ℕ) :
      (Pipeline.launchCred (fun d => tallyAt ((lft d : Thread nD τ), sm) () n) c : sProp 𝕄) ⊢ cred (tallyAt ((c : Thread nD τ), sm) () n) :=
    Pipeline.launchCred_tallyAt sm lft rgt lft_rgt rgt_lft () n c
  have hr (sm : SemLoc sig) (n : ℕ) :
      (Pipeline.launchCred (fun d => tallyAt ((rgt d : Thread nD τ), sm) () n) c : sProp 𝕄) ⊢ cred (tallyAt ((c : Thread nD τ), sm) () n) :=
    Pipeline.launchCred_tallyAt sm rgt lft rgt_lft lft_rgt () n c
  rw [show O₀ = fun d => T7 d + br (lft d) from rfl, Pipeline.launchCred_add,
    show T7 = fun d => T6 d + br (rgt d) from rfl, Pipeline.launchCred_add,
    show T6 = fun d => T5 d + cr (rgt d) 9 from rfl, Pipeline.launchCred_add,
    show T5 = fun d => T4 d + cr (lft d) 12 from rfl, Pipeline.launchCred_add,
    show T4 = fun d => T3 d + cr (rgt d) 10 from rfl, Pipeline.launchCred_add,
    show T3 = fun d => T2 d + cr (lft d) 13 from rfl, Pipeline.launchCred_add,
    show T2 = fun d => T1 d + cr (rgt d) 11 from rfl, Pipeline.launchCred_add,
    show T1 = fun d => 0 + cr (lft d) 14 from rfl, Pipeline.launchCred_add]
  unfold credits
  iintro ⟨⟨⟨⟨⟨⟨⟨⟨-, H14⟩, H11⟩, H13⟩, H10⟩, H12⟩, H9⟩, Hr⟩, Hl⟩
  isplitl [Hr Hl]
  · rw [show (tallyAt (bcell c) () 2 : CellTallies nD τ sig Unit) = br c + br c from (tallyAt_add _ _ 1 1).symm]
    iapply (cred_add _ _).2
    isplitl [Hr]
    · iapply (hr (.reg barS) 1); iexact Hr
    · iapply (hl (.reg barS) 1); iexact Hl
  isplitl [H9]; · iapply (hr (.dma (9 : Fin 15)) N); iexact H9
  isplitl [H10]; · iapply (hr (.dma (10 : Fin 15)) N); iexact H10
  isplitl [H11]; · iapply (hr (.dma (11 : Fin 15)) N); iexact H11
  isplitl [H12]; · iapply (hl (.dma (12 : Fin 15)) N); iexact H12
  isplitl [H13]; · iapply (hl (.dma (13 : Fin 15)) N); iexact H13
  iapply (hl (.dma (14 : Fin 15)) N); iexact H14

/-! ## The launch theorem's conditions -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hl, Hc, -, HG⟩
  ihave Hc := (creds (F := F) c) $$ Hc
  imodintro
  unfold start G'
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  rw [all_sems]
  iintro ⟨Hs, Hu, Ho⟩
  isplitl [Hu]; · iexact Hu
  isplitl [Ho]; · iexact Ho
  iexists (gath m); iexact Hs

theorem waits (c : Dev nD) : (levAts L lv : sProp 𝕄) ⊢ Pipeline.cellsWaits cfgs (dats m ρ) () 0 c :=
  Pipeline.cellsWaits_intro cfgs (dats m ρ) () 0 c fun w s t => by
    have ht : Above 0 ((dats m ρ 0 c).owed t) := by
      rcases t with ⟨_ | _, ht⟩
      · exact above_O₀ c
      · exact above_zero 0
    refine mayWait_above ht c _ ?_
    fin_cases w <;> fin_cases s <;> exact le_of_eq rfl

/-! ## The run -/

def finalA (c : Dev nD) (w : Fin cfg0.W) : Buf (Elt F) ((cfg0.win w).arr.view.loc (c : Thread nD τ)) := (dats m ρ 0 c).arrAt w cfg0.N

set_option maxRecDepth 8000 in
theorem run_windows : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro H
      ihave H := (ownU_pair _ _) $$ H
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array at the end is what the body left in its stage. -/
theorem finalA_out (c : Dev nD) : finalA m ρ c (2 : Fin 3) = outAt m c := by
  have hread (f : FVec F S2048x512 .f32) : (win0_2.blk (0 : Fin 1)).view.read (Elt F) f = f := funext fun i =>
    congrArg f (ix_ext (by show 0 * 2048 + 1 * (i 0).val = (i 0).val; omega) (by show 0 * 512 + 1 * (i 1).val = (i 1).val; omega))
  refine (hread _).symm.trans ?_
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- From any memory with every counter at zero the program ends, in every fair execution, with each device's result
    at `outAt`, both its arguments unchanged, and every semaphore counter at zero. -/
theorem run_main : θ_run defs (onTc (τ := τ) (main (F := F))) (s₀ m ρ) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (finalA_out m ρ c),
    (h.1 c (0 : Fin 3)).trans ((dats (F := F) m ρ 0 c).arrAt_in (0 : Fin 3) rfl _),
    (h.1 c (1 : Fin 3)).trans ((dats (F := F) m ρ 0 c).arrAt_in (1 : Fin 3) rfl _)⟩, h.2⟩) (run_windows m ρ)

end Cert.KernelIdeal.Ring

end
-- ==== Proof.Bound.lean ====
/-
Extended reals: the activation written two ways, and a bound on a sum of products from the sums of squares.
-/
module

public import Idealize.ShloMosaic.Lib.IdealHost
public import Mathlib.Algebra.Order.BigOperators.Ring.Finset

@[expose] public section

noncomputable section

namespace Cert.Value

open Idealize.ShloMosaic
open scoped BigOperators

/-! ## The activation -/

/-- The kernel's activation: a value times its logistic. -/
def silu (y : EReal) : EReal := y * Ideal.logistic y

/-- The exponential is never negative. -/
theorem exp_nonneg (y : EReal) : 0 ≤ Ideal.exp y := by
  induction y using EReal.rec with
  | bot => simp
  | top => simp
  | coe r => rw [Ideal.exp_coe]; exact_mod_cast (Real.exp_pos r).le

/-- A value divided by one plus the exponential of its negation is the value times its logistic. -/
theorem div_one_add_exp (y : EReal) : Ideal.div y (1 + Ideal.exp (-y)) = silu y := by
  have h : (1 : EReal) + Ideal.exp (-y) ≠ 0 := fun e => by
    have h1 : (1 : EReal) ≤ 1 + Ideal.exp (-y) := le_add_of_nonneg_right (exp_nonneg _)
    rw [e] at h1; exact absurd h1 (by simp)
  exact (Ideal.mul_one_div h).symm

/-! ## Literals of the two references and of the precondition -/

theorem lit_pos60 : Ideal.ofBits .f32 0x42700000#32 = ((60 : ℝ) : EReal) := by
  simp [Ideal.ofBits, Ideal.ieee, -EReal.coe_mul]; norm_num

theorem lit_neg60 : Ideal.ofBits .f32 0xC2700000#32 = ((-60 : ℝ) : EReal) := by
  simp [Ideal.ofBits, Ideal.ieee, -EReal.coe_mul, -EReal.coe_neg]; norm_num

theorem lit_2400 : Ideal.ofBits .f32 0x45160000#32 = ((2400 : ℝ) : EReal) := by
  simp [Ideal.ofBits, Ideal.ieee, -EReal.coe_mul]; norm_num

theorem lit_three_halves : Ideal.ofBits .f32 0x3FC00000#32 = ((3 / 2 : ℝ) : EReal) := by
  simp [Ideal.ofBits, Ideal.ieee, -EReal.coe_mul]; norm_num

/-! ## A bound on a sum of products -/

/-- The sum of real numbers is the same among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A square is not negative. -/
theorem sq_nonneg' (x : EReal) : 0 ≤ x * x := by
  induction x using EReal.rec with
  | bot => simp
  | top => simp
  | coe r => rw [← EReal.coe_mul]; exact_mod_cast mul_self_nonneg r

/-- Numbers whose squares have a finite sum are real, and the sum of their squares is the real one. -/
theorem real_of_sq_sum {n : ℕ} (x : Fin n → EReal) {b : ℝ} (h : ∑ k, x k * x k ≤ (b : EReal)) :
    ∃ r : Fin n → ℝ, (∀ k, x k = (r k : EReal)) ∧ ∑ k, r k ^ 2 ≤ b := by
  have hx (k : Fin n) : x k = ((x k).toReal : EReal) := by
    have hk : x k * x k ≤ (b : EReal) :=
      le_trans (Finset.single_le_sum (f := fun k => x k * x k) (fun i _ => sq_nonneg' (x i)) (Finset.mem_univ k)) h
    refine (EReal.coe_toReal ?_ ?_).symm
    · intro e; rw [e] at hk; simp at hk
    · intro e; rw [e] at hk; simp at hk
  refine ⟨fun k => (x k).toReal, hx, ?_⟩
  have e : ∑ k, x k * x k = ((∑ k, (x k).toReal ^ 2 : ℝ) : EReal) := by
    rw [coe_sum]
    refine Finset.sum_congr rfl fun k _ => ?_
    rw [pow_two, EReal.coe_mul, ← hx k]
  rw [e] at h
  exact_mod_cast h

/-- Cauchy–Schwarz: the sum of products is at most the root of the product of the two bounds, on either side. -/
theorem sum_mul_bounds {n : ℕ} (x w : Fin n → EReal) {a b t : ℝ} (ht : 0 ≤ t) (hb : 0 ≤ b) (hab : a * b ≤ t ^ 2)
    (hx : ∑ k, x k * x k ≤ (a : EReal)) (hw : ∑ k, w k * w k ≤ (b : EReal)) :
    ((-t : ℝ) : EReal) ≤ ∑ k, x k * w k ∧ ∑ k, x k * w k ≤ (t : EReal) := by
  obtain ⟨r, hr, hra⟩ := real_of_sq_sum x hx
  obtain ⟨q, hq, hqb⟩ := real_of_sq_sum w hw
  have e : ∑ k, x k * w k = ((∑ k, r k * q k : ℝ) : EReal) := by
    rw [coe_sum]
    exact Finset.sum_congr rfl fun k _ => by rw [hr k, hq k, EReal.coe_mul]
  have hc : (∑ k, r k * q k) ^ 2 ≤ t ^ 2 := by
    refine (Finset.sum_mul_sq_le_sq_mul_sq Finset.univ r q).trans (le_trans ?_ hab)
    exact mul_le_mul hra hqb (Finset.sum_nonneg fun k _ => sq_nonneg _) ((Finset.sum_nonneg fun k _ => sq_nonneg _).trans hra)
  have hl := abs_le_of_sq_le_sq' hc ht
  rw [e]
  exact ⟨by exact_mod_cast hl.1, by exact_mod_cast hl.2⟩

/-- A value between the two ends of the clip is left alone by it. -/
theorem clip_id {y lo hi : EReal} (h1 : lo ≤ y) (h2 : y ≤ hi) : min hi (max lo y) = y := by
  rw [max_eq_right h1, min_eq_right h2]

end Cert.Value

end
-- ==== Proof.Value.lean ====
/-
What the kernel's run leaves and what the two references' runs leave, at the exact extended reals: the same function of
the whole arrays.
-/
module

public import proofs.«01_k».proof.Proof.Bound
public import proofs.«01_k».proof.Proof.KernelIdealSteps
public import proofs.«01_k».proof.Proof.Gen.ReferenceIdeal.Run
public import proofs.«01_k».proof.Proof.Gen.UnclippedIdeal.Run
public import proofs.«01_k».proof.Proof.Gen.Pre_bounded_KernelIdeal
public import Idealize.ShloMosaic.Lib.MatmulPlain
public import Idealize.ShloMosaic.Lib.Layout

@[expose] public section

set_option backward.proofsInPublic true

noncomputable section

namespace Cert.Value

open Idealize.ShloMosaic Idealize.ShloMosaic.ValueIdx
open Cert.KernelIdeal.Ring (ix ix_ext rowDev gath grows outAt opp xin win)
open scoped BigOperators

/-- The product of the two whole arrays, entry by entry. -/
def prod (X W : FVec Ideal ⟨2, ![2048, 2048]⟩ .bf16) : FVec Ideal ⟨2, ![2048, 2048]⟩ .f32 := fun j =>
  ∑ k : Fin 2048, (X (ix2 (j 0) k) : EReal) * (W (ix2 k (j 1)) : EReal)

/-- The result on the whole arrays: the activation of every entry of the product. -/
def whole (X W : FVec Ideal ⟨2, ![2048, 2048]⟩ .bf16) : FVec Ideal ⟨2, ![2048, 2048]⟩ .f32 := fun j => silu (prod X W j)

/-! ## The kernel -/

section Kernel

open Cert.KernelIdeal.Gen (k0_pay4 k0_pay9)
open Cert.KernelIdeal (nD τ sig main_arg0 main_arg1 S512x2048 S2048x512 S512x512 S256x2048 S256x512 S2048x2048)

/-- A tile of 512 rows: the activation of the row times the column. -/
theorem pay_full (w : FVec Ideal S2048x512 .bf16) (x : FVec Ideal S512x2048 .bf16) (r : Fin 512) (q : Fin 512) :
    k0_pay4 w x (ix2 r q) = silu (∑ k : Fin 2048, (x (ix2 r k) : EReal) * (w (ix2 k q) : EReal)) := by
  have e := Ideal.matmul_plain_apply (M := 512) (K := 2048) (N := 512) none x w (constant (F := Ideal) S512x512 .f32 0x00000000#32) r q
  rw [show (constant (F := Ideal) S512x512 .f32 0x00000000#32 (ix2 r q) : EReal) = 0 from Ideal.ofBits_zero_f32, zero_add] at e
  rw [← e]
  rfl

/-- A tile of 256 rows likewise. -/
theorem pay_half (w : FVec Ideal S2048x512 .bf16) (x : FVec Ideal S256x2048 .bf16) (r : Fin 256) (q : Fin 512) :
    k0_pay9 w x (ix2 r q) = silu (∑ k : Fin 2048, (x (ix2 r k) : EReal) * (w (ix2 k q) : EReal)) := by
  have e := Ideal.matmul_plain_apply (M := 256) (K := 2048) (N := 512) none x w (constant (F := Ideal) S256x512 .f32 0x00000000#32) r q
  rw [show (constant (F := Ideal) S256x512 .f32 0x00000000#32 (ix2 r q) : EReal) = 0 from Ideal.ofBits_zero_f32, zero_add] at e
  rw [← e]
  rfl

variable (m : (ℓ : Loc nD τ sig) → Buf (Elt Ideal) ℓ)

/-- Both kinds of tile give the activation of the gathered row times the device's column. -/
theorem outAt_eq (c : Dev nD) (r : Fin 2048) (q : Fin 512) :
    outAt m c (ix2 r q) = silu (∑ k : Fin 2048, (gath m (ix (a := 2048) (b := 2048) r k) : EReal) * (win m c (ix2 k q) : EReal)) := by
  have h0 : r.val < 2048 := r.isLt
  unfold outAt
  split
  · refine (congrArg (k0_pay9 (win m c) (grows m (256 * (r.val / 256)) 256))
      (ix_ext (i := ix (a := 256) (b := 512) ⟨r.val % 256, Nat.mod_lt _ (by decide)⟩ q) (j := ix2 (n0 := 256) (n1 := 512) ⟨r.val % 256, Nat.mod_lt _ (by decide)⟩ q) rfl rfl)).trans ?_
    rw [pay_half]
    refine congrArg silu (Finset.sum_congr rfl fun k _ => ?_)
    refine congrArg (fun g : EReal => g * (win m c (ix2 k q) : EReal)) (congrArg (gath m) (ix_ext ?_ rfl))
    show (256 * (r.val / 256) + r.val % 256) % 2048 = r.val
    omega
  · refine (congrArg (k0_pay4 (win m c) (grows m (512 * (r.val / 512)) 512))
      (ix_ext (i := ix (a := 512) (b := 512) ⟨r.val % 512, Nat.mod_lt _ (by decide)⟩ q) (j := ix2 (n0 := 512) (n1 := 512) ⟨r.val % 512, Nat.mod_lt _ (by decide)⟩ q) rfl rfl)).trans ?_
    rw [pay_full]
    refine congrArg silu (Finset.sum_congr rfl fun k _ => ?_)
    refine congrArg (fun g : EReal => g * (win m c (ix2 k q) : EReal)) (congrArg (gath m) (ix_ext ?_ rfl))
    show (512 * (r.val / 512) + r.val % 512) % 2048 = r.val
    omega

variable (X W : FVec Ideal ⟨2, ![2048, 2048]⟩ .bf16)
  (hX : ∀ c : Dev nD, xin m c = Layout.block ⟨2, ![512, 2048]⟩ ⟨2, ![2048, 2048]⟩ 0 4 c X)
  (hW : ∀ c : Dev nD, win m c = Layout.block ⟨2, ![2048, 512]⟩ ⟨2, ![2048, 2048]⟩ 1 4 c W)

include hX in
/-- The gathered rows are the whole array. -/
theorem gath_eq (r k : Fin 2048) : gath m (ix (a := 2048) (b := 2048) r k) = X (ix2 r k) := by
  have hr : r.val < 2048 := r.isLt
  unfold gath
  rw [hX, Layout.block_apply]
  refine congrArg X (ix_ext ?_ rfl)
  show (r.val / 512) * 512 + r.val % 512 = r.val
  omega

include hW in
/-- A device's column is a column of the whole array. -/
theorem win_eq (c : Dev nD) (k : Fin 2048) (q : Fin 512) (g : Fin 2048) (hg : g.val = c.val * 512 + q.val) :
    win m c (ix2 k q) = W (ix2 k g) := by
  rw [hW, Layout.block_apply]
  exact congrArg W (ix_ext rfl hg.symm)

include hX hW in
/-- Each device's result is its block of columns of the result on the whole arrays. -/
theorem outAt_block (c : Dev nD) : outAt m c = Layout.block ⟨2, ![2048, 512]⟩ ⟨2, ![2048, 2048]⟩ 1 4 c (whole X W) := by
  funext i
  obtain ⟨r, q, rfl⟩ : ∃ (r : Fin 2048) (q : Fin 512), i = ix2 r q := ⟨i 0, i 1, eq_ix2 i⟩
  have hc : c.val < 4 := c.isLt
  have hq : q.val < 512 := q.isLt
  rw [outAt_eq, Layout.block_apply]
  refine (congrArg silu (Finset.sum_congr rfl fun k _ => ?_)).trans
    (congrArg (whole X W) (ix_ext (i := ix2 (n0 := 2048) (n1 := 2048) r ⟨c.val * 512 + q.val, by omega⟩) rfl rfl))
  rw [gath_eq m X hX, win_eq m W hW c k q ⟨c.val * 512 + q.val, by omega⟩ rfl]

end Kernel

/-! ## The references -/

/-- The host's product of the whole arrays. -/
theorem host_dot (d : DotDims ⟨2, ![2048, 2048]⟩ ⟨2, ![2048, 2048]⟩ ⟨2, ![2048, 2048]⟩) (hd : d = DotDims.plain 2048 2048 2048)
    (X W : FVec Ideal ⟨2, ![2048, 2048]⟩ .bf16) :
    (Host.dotGeneral d none X W : FVec Ideal ⟨2, ![2048, 2048]⟩ .f32) = prod X W := by
  subst hd
  funext j
  obtain ⟨r, q, rfl⟩ : ∃ r q : Fin 2048, j = ix2 r q := ⟨j 0, j 1, eq_ix2 j⟩
  have e := Ideal.matmul_plain_apply (M := 2048) (K := 2048) (N := 2048) none X W (fun _ => (0 : EReal)) r q
  rw [zero_add] at e
  exact e

section Unclipped

open Cert.UnclippedIdeal Cert.UnclippedIdeal.Facts₀

/-- The reference without the clip, at the exact extended reals, leaves the activation of every entry. -/
theorem unclipped_eq (X W : FVec Ideal ⟨2, ![2048, 2048]⟩ .bf16) :
    Host.divf (extf .f32 (truncf .bf16 (Host.dotGeneral dot_S2048x2048_S2048x2048_S2048x2048_1_0_0_1_n_n none X W) bitsLt_bf16_f32) bitsLt_bf16_f32) (addf (broadcastInDim S2048x2048 ![] bcast_S_S2048x2048 (constant S_ .f32 0x3F800000#32)) (Host.exp (Host.negf (extf .f32 (truncf .bf16 (Host.dotGeneral dot_S2048x2048_S2048x2048_S2048x2048_1_0_0_1_n_n none X W) bitsLt_bf16_f32) bitsLt_bf16_f32))))
      = whole X W := by
  rw [host_dot dot_S2048x2048_S2048x2048_S2048x2048_1_0_0_1_n_n rfl]
  funext j
  show Ideal.div (prod X W j) (Ideal.ofBits .f32 0x3F800000#32 + Ideal.exp (-(prod X W j))) = silu (prod X W j)
  rw [Ideal.ofBits_one_f32, div_one_add_exp]

end Unclipped

section Clipped

open Cert.ReferenceIdeal Cert.ReferenceIdeal.Facts₀

/-- The reference with the clip leaves the same where every entry of the product lies in the clip's range. -/
theorem clipped_eq (X W : FVec Ideal ⟨2, ![2048, 2048]⟩ .bf16)
    (h : ∀ j, ((-60 : ℝ) : EReal) ≤ prod X W j ∧ prod X W j ≤ ((60 : ℝ) : EReal)) :
    Host.divf (extf .f32 (truncf .bf16 (Host.dotGeneral dot_S2048x2048_S2048x2048_S2048x2048_1_0_0_1_n_n none X W) bitsLt_bf16_f32) bitsLt_bf16_f32) (addf (broadcastInDim S2048x2048 ![] bcast_S_S2048x2048 (constant S_ .f32 0x3F800000#32)) (Host.exp (Host.negf (minimumf (broadcastInDim S2048x2048 ![] bcast_S_S2048x2048 (id (constant S_ .f32 0x42700000#32))) (maximumf (broadcastInDim S2048x2048 ![] bcast_S_S2048x2048 (id (constant S_ .f32 0xC2700000#32))) (extf .f32 (truncf .bf16 (Host.dotGeneral dot_S2048x2048_S2048x2048_S2048x2048_1_0_0_1_n_n none X W) bitsLt_bf16_f32) bitsLt_bf16_f32))))))
      = whole X W := by
  rw [host_dot dot_S2048x2048_S2048x2048_S2048x2048_1_0_0_1_n_n rfl]
  funext j
  show Ideal.div (prod X W j) (Ideal.ofBits .f32 0x3F800000#32
    + Ideal.exp (-(min (Ideal.ofBits .f32 0x42700000#32) (max (Ideal.ofBits .f32 0xC2700000#32) (prod X W j))))) = silu (prod X W j)
  rw [lit_pos60, lit_neg60, clip_id (h j).1 (h j).2, Ideal.ofBits_one_f32, div_one_add_exp]

end Clipped

/-! ## The precondition -/

section Precondition

open Cert.Pre_bounded_KernelIdeal

/-- A comparison that came out true. -/
theorem le_of_cmp {x y : EReal} (h : Ideal.cmp .ole x y = 1#1) : x ≤ y := by
  by_contra hn
  have e : Ideal.cmp .ole x y = BitVec.ofBool (decide (x ≤ y)) := rfl
  rw [e, decide_eq_false hn] at h
  exact absurd h (by decide)

/-- Both of two single bits are set where their conjunction is. -/
theorem and_eq_one (a b : BitVec 1) (h : a &&& b = 1#1) : a = 1#1 ∧ b = 1#1 := by revert a b; decide

/-- Where the precondition holds of a device's blocks, each of its rows has squares summing to at most 2400 and each of
    its columns squares summing to at most 3/2. -/
theorem bounds_of_pre (x : FVec Ideal S512x2048 .bf16) (w : FVec Ideal S2048x512 .bf16) (h : fn (F := Ideal) x w = fun _ => 1#1) (d : Fin 512) :
    ∑ k : Fin 2048, (x (ix2 d k) : EReal) * (x (ix2 d k) : EReal) ≤ ((2400 : ℝ) : EReal)
      ∧ ∑ k : Fin 2048, (w (ix2 k d) : EReal) * (w (ix2 k d) : EReal) ≤ ((3 / 2 : ℝ) : EReal) := by
  have hd : Ideal.cmp .ole (Ideal.hostReduceAdd Facts.reducesTo_S512x2048_S512_d1 (fun i => (x i : EReal) * (x i : EReal)) (Ideal.ofBits .f32 0x00000000#32) (ix1 d)) (Ideal.ofBits .f32 0x45160000#32)
      &&& Ideal.cmp .ole (Ideal.hostReduceAdd Facts.reducesTo_S2048x512_S512_d0 (fun i => (w i : EReal) * (w i : EReal)) (Ideal.ofBits .f32 0x00000000#32) (ix1 d)) (Ideal.ofBits .f32 0x3FC00000#32) = 1#1 := congrFun h (ix1 d)
  obtain ⟨h1, h2⟩ := and_eq_one _ _ hd
  have h1 := le_of_cmp h1
  have h2 := le_of_cmp h2
  have hr1 : S512x2048.Reduces [1] S512 := by decide
  have hr2 : S2048x512.Reduces [0] S512 := by decide
  rw [Ideal.hostReduceAdd_single _ hr1, Ideal.ofBits_zero_f32, zero_add, lit_2400] at h1
  rw [Ideal.hostReduceAdd_single _ hr2, Ideal.ofBits_zero_f32, zero_add, lit_three_halves] at h2
  have e1 (k : Fin 2048) : hr1.lift (ix1 d) k = ix2 d k := ix_ext rfl rfl
  have e2 (k : Fin 2048) : hr2.lift (ix1 d) k = ix2 k d := ix_ext rfl rfl
  constructor
  · refine le_trans (le_of_eq (Finset.sum_congr rfl fun k _ => ?_)) h1
    show _ = (x (hr1.lift (ix1 d) k) : EReal) * (x (hr1.lift (ix1 d) k) : EReal)
    rw [e1]
  · refine le_trans (le_of_eq (Finset.sum_congr rfl fun k _ => ?_)) h2
    show _ = (w (hr2.lift (ix1 d) k) : EReal) * (w (hr2.lift (ix1 d) k) : EReal)
    rw [e2]

/-- Where the precondition holds of every device's blocks, every entry of the whole product lies in the clip's range. -/
theorem prod_bounds (X W : FVec Ideal ⟨2, ![2048, 2048]⟩ .bf16)
    (h : ∀ c : Fin 4, fn (F := Ideal) (Layout.block ⟨2, ![512, 2048]⟩ ⟨2, ![2048, 2048]⟩ 0 4 c X)
      (Layout.block ⟨2, ![2048, 512]⟩ ⟨2, ![2048, 2048]⟩ 1 4 c W) = fun _ => 1#1) (j : (⟨2, ![2048, 2048]⟩ : Shape).Idx) :
    ((-60 : ℝ) : EReal) ≤ prod X W j ∧ prod X W j ≤ ((60 : ℝ) : EReal) := by
  obtain ⟨r, q, rfl⟩ : ∃ r q : Fin 2048, j = ix2 r q := ⟨j 0, j 1, eq_ix2 j⟩
  have hr : r.val < 2048 := r.isLt
  have hq : q.val < 2048 := q.isLt
  have b1 := (bounds_of_pre _ _ (h ⟨r.val / 512, by omega⟩) ⟨r.val % 512, by omega⟩).1
  have b2 := (bounds_of_pre _ _ (h ⟨q.val / 512, by omega⟩) ⟨q.val % 512, by omega⟩).2
  refine sum_mul_bounds (fun k : Fin 2048 => (X (ix2 r k) : EReal)) (fun k => (W (ix2 k q) : EReal)) (a := 2400) (b := 3 / 2) (t := 60)
    (by norm_num) (by norm_num) (by norm_num) ?_ ?_
  · refine le_trans (le_of_eq (Finset.sum_congr rfl fun k _ => ?_)) b1
    have e : (Layout.block ⟨2, ![512, 2048]⟩ ⟨2, ![2048, 2048]⟩ 0 4 (⟨r.val / 512, by omega⟩ : Fin 4) X) (ix2 (n0 := 512) (n1 := 2048) ⟨r.val % 512, by omega⟩ k) = X (ix2 r k) := by
      rw [Layout.block_apply]
      exact congrArg X (ix_ext (by show r.val / 512 * 512 + r.val % 512 = r.val; omega) rfl)
    rw [e]
  · refine le_trans (le_of_eq (Finset.sum_congr rfl fun k _ => ?_)) b2
    have e : (Layout.block ⟨2, ![2048, 512]⟩ ⟨2, ![2048, 2048]⟩ 1 4 (⟨q.val / 512, by omega⟩ : Fin 4) W) (ix2 (n0 := 2048) (n1 := 512) k ⟨q.val % 512, by omega⟩) = W (ix2 k q) := by
      rw [Layout.block_apply]
      exact congrArg W (ix_ext rfl (by show q.val / 512 * 512 + q.val % 512 = q.val; omega))
    rw [e]

end Precondition

end Cert.Value

end
-- ==== Proof.lean ====
/-
The proof of `Cert.Claim`: the kernel runs to the end, leaves its arguments unchanged and every semaphore at zero, at the
machine's own floats and at the exact extended reals; both references run likewise; and at the exact extended reals each
device's result is its block of columns of the references' result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_bounded_KernelIdeal
public import proofs.«01_k».proof.Proof.Gen.Pre_bounded_ReferenceIdeal
public import proofs.«01_k».proof.Proof.KernelRun
public import proofs.«01_k».proof.Proof.KernelIdealRun
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The kernel, at the machine's floats, runs, keeps its arguments and ends with every semaphore at zero. -/
theorem frame_kernel : Cert.quiescent_Kernel := fun m g _ =>
  (θ_run Cert.Kernel.defs _ _).mono (fun _ h => ⟨fun c => (h.1 c).2, h.2⟩) (Cert.Kernel.Ring.run_main (F := Bits) m g)

/-- So it does at the exact extended reals. -/
theorem frame_kernelIdeal : Cert.quiescent_KernelIdeal := fun m g _ =>
  (θ_run Cert.KernelIdeal.defs _ _).mono (fun _ h => ⟨fun c => (h.1 c).2, h.2⟩) (Cert.KernelIdeal.Ring.run_main (F := Ideal) m g)

/-- The reference runs, keeps its arguments and uses no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- So does the reference without the clip. -/
theorem frame_unclipped : Cert.quiescent_UnclippedIdeal := fun m g _ =>
  (θ_run Cert.UnclippedIdeal.defs _ _).mono (fun r h => ⟨fun c => (h c).2, sem_eq_zero_of_no_sems (by decide) r.2⟩)
    (Cert.UnclippedIdeal.Value.run (F := Ideal) m g)

/-- For every input, each device's result is its columns of the result of the reference without the clip. -/
theorem value_unclipped : Cert.algebraic_KernelIdeal_UnclippedIdeal := fun m g m' g' _ hag =>
  ⟨Cert.Value.whole (m' (((0 : Dev Cert.UnclippedIdeal.nD).tc : Thread Cert.UnclippedIdeal.nD Cert.UnclippedIdeal.τ).loc Cert.UnclippedIdeal.main_arg0))
      (m' (((0 : Dev Cert.UnclippedIdeal.nD).tc : Thread Cert.UnclippedIdeal.nD Cert.UnclippedIdeal.τ).loc Cert.UnclippedIdeal.main_arg1)),
    (θ_run Cert.KernelIdeal.defs _ _).mono
      (fun _ h c => ⟨(h.1 c).1.trans (Cert.Value.outAt_block m _ _ (fun c => (hag c).1) (fun c => (hag c).2) c), (h.1 c).2⟩)
      (Cert.KernelIdeal.Ring.run_main (F := Ideal) m g),
    (θ_run Cert.UnclippedIdeal.defs _ _).mono
      (fun _ h => ⟨(h 0).1.trans (Cert.Value.unclipped_eq _ _), (h 0).2⟩)
      (Cert.UnclippedIdeal.Value.run (F := Ideal) m' g')⟩

/-- Where the rows of the left array and the columns of the right one are bounded, each device's result is its columns of
    the result of the reference with the clip. -/
theorem value_reference : Cert.algebraic_KernelIdeal_ReferenceIdeal_pre_bounded_KernelIdeal := fun m g m' g' hpre hag =>
  ⟨Cert.Value.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.Value.outAt_block m _ _ (fun c => (hag c).1) (fun c => (hag c).2) c), (h.1 c).2⟩)
      (Cert.KernelIdeal.Ring.run_main (F := Ideal) m g),
    (θ_run Cert.ReferenceIdeal.defs _ _).mono
      (fun _ h => ⟨(h 0).1.trans (Cert.Value.clipped_eq _ _ (Cert.Value.prod_bounds _ _ fun c => by
          have hc := hpre c
          rw [(hag c).1, (hag c).2] at hc
          exact hc)), (h 0).2⟩)
      (Cert.ReferenceIdeal.Value.run (F := Ideal) m' g')⟩

/-- Every claim of this certificate. -/
theorem claim : Cert.Claim :=
  ⟨Cert.Kernel.Gen.facts, Cert.KernelIdeal.Gen.facts, Cert.ReferenceIdeal.Gen.facts, Cert.UnclippedIdeal.Gen.facts,
    Cert.Pre_bounded_KernelIdeal.Gen.facts, Cert.Pre_bounded_ReferenceIdeal.Gen.facts,
    frame_kernel, frame_kernelIdeal, fun m g _ => frame_kernelIdeal m g trivial,
    frame_reference, fun m g _ => frame_reference m g trivial, frame_unclipped, trivial,
    value_unclipped, value_reference⟩

end Cert.Proof

end
